-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v98) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x4096x10752 : Shape := ⟨3, ![8, 4096, 10752]⟩
abbrev S8x256x10752 : Shape := ⟨3, ![8, 256, 10752]⟩
abbrev S1x16x15x31 : Shape := ⟨4, ![1, 16, 15, 31]⟩
abbrev S8x4096x2048 : Shape := ⟨3, ![8, 4096, 2048]⟩
abbrev S_ : Shape := ⟨0, ![]⟩
abbrev S8x256x1024 : Shape := ⟨3, ![8, 256, 1024]⟩

class Facts : Prop where
  slices_S8x4096x10752_S8x4096x2048_0_0_3072 : S8x4096x10752.Slices ![0, 0, 3072] S8x4096x2048
  bitsLt_bf16_f32 : FTy.bits .bf16 < FTy.bits .f32
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  slices_S8x256x10752_S8x256x1024_0_0_4096 : S8x256x10752.Slices ![0, 0, 4096] S8x256x1024
  bcast_S_S8x256x1024 : S_.BroadcastsInDim S8x256x1024 (![] : Fin 0 → Fin S8x256x1024.rank)
  reducesTo_S8x256x1024_S_d0_1_2 : S8x256x1024.ReducesTo [0, 1, 2] S_
  bcast_S_S1x16x15x31 : S_.BroadcastsInDim S1x16x15x31 (![] : Fin 0 → Fin S1x16x15x31.rank)
  reducesTo_S1x16x15x31_S_d0_1_2_3 : S1x16x15x31.ReducesTo [0, 1, 2, 3] S_

variable [Facts]

def fn {F : FTy → Type} [FloatOps F] (main_arg0 : FVec F S8x4096x10752 .bf16) (main_arg1 : FVec F S8x256x10752 .bf16) (main_arg2 : FVec F S1x16x15x31 .f32) : IVec S_ 1 :=
  let main_v0 : FVec F S8x4096x2048 .bf16 := (extractStridedSlice S8x4096x2048 ![0, 0, 3072] · slices_S8x4096x10752_S8x4096x2048_0_0_3072) main_arg0
  let main_v1 : FVec F S8x4096x2048 .f32 := (extf .f32 · bitsLt_bf16_f32) main_v0
  let main_v2 : FVec F S8x4096x2048 .f32 := Host.absf main_v1
  let main_cst : FVec F S_ .f32 := constant S_ .f32 0x7F800000#32
  let main_v3 : FVec F S8x4096x2048 .f32 := broadcastInDim S8x4096x2048 ![] bcast_S_S8x4096x2048 main_cst
  let main_v4 : IVec S8x4096x2048 1 := cmpf .olt main_v2 main_v3
  let main_c : IVec S_ 1 := constantI S_ 1 1#1
  let main_v5 : IVec S_ 1 := (fun x v => Host.reduce IntOp.andi x v reducesTo_S8x4096x2048_S_d0_1_2 h_S_) main_v4 main_c
  let main_v6 : FVec F S8x256x1024 .bf16 := (extractStridedSlice S8x256x1024 ![0, 0, 4096] · slices_S8x256x10752_S8x256x1024_0_0_4096) main_arg1
  let main_v7 : FVec F S8x256x1024 .f32 := (extf .f32 · bitsLt_bf16_f32) main_v6
  let main_v8 : FVec F S8x256x1024 .f32 := Host.absf main_v7
  let main_cst_0 : FVec F S_ .f32 := constant S_ .f32 0x7F800000#32
  let main_v9 : FVec F S8x256x1024 .f32 := broadcastInDim S8x256x1024 ![] bcast_S_S8x256x1024 main_cst_0
  let main_v10 : IVec S8x256x1024 1 := cmpf .olt main_v8 main_v9
  let main_c_1 : IVec S_ 1 := constantI S_ 1 1#1
  let main_v11 : IVec S_ 1 := (fun x v => Host.reduce IntOp.andi x v reducesTo_S8x256x1024_S_d0_1_2 h_S_) main_v10 main_c_1
  let main_v12 : IVec S_ 1 := andi main_v5 main_v11
  let main_v13 : FVec F S1x16x15x31 .f32 := Host.absf main_arg2
  let main_cst_2 : FVec F S_ .f32 := constant S_ .f32 0x7F800000#32
  let main_v14 : FVec F S1x16x15x31 .f32 := broadcastInDim S1x16x15x31 ![] bcast_S_S1x16x15x31 main_cst_2
  let main_v15 : IVec S1x16x15x31 1 := cmpf .olt main_v13 main_v14
  let main_c_3 : IVec S_ 1 := constantI S_ 1 1#1
  let main_v16 : IVec S_ 1 := (fun x v => Host.reduce IntOp.andi x v reducesTo_S1x16x15x31_S_d0_1_2_3 h_S_) main_v15 main_c_3
  let main_v17 : IVec S_ 1 := andi main_v12 main_v16
  main_v17
-- ==== Kernel.lean ====
abbrev S8x4096x10752 : Shape := ⟨3, ![8, 4096, 10752]⟩
abbrev S8x256x10752 : Shape := ⟨3, ![8, 256, 10752]⟩
abbrev S1x16x15x31 : Shape := ⟨4, ![1, 16, 15, 31]⟩
abbrev S31x4096 : Shape := ⟨2, ![31, 4096]⟩
abbrev S64x64 : Shape := ⟨2, ![64, 64]⟩
abbrev S1x1x64x64 : Shape := ⟨4, ![1, 1, 64, 64]⟩
abbrev S16x15x31 : Shape := ⟨3, ![16, 15, 31]⟩
abbrev S240x31 : Shape := ⟨2, ![240, 31]⟩
abbrev S240x4096 : Shape := ⟨2, ![240, 4096]⟩
abbrev S16x15x64x64 : Shape := ⟨4, ![16, 15, 64, 64]⟩
abbrev S_ : Shape := ⟨0, ![]⟩
abbrev S16x64x15x64 : Shape := ⟨4, ![16, 64, 15, 64]⟩
abbrev S16x64x8x64 : Shape := ⟨4, ![16, 64, 8, 64]⟩
abbrev S16x64x512 : Shape := ⟨3, ![16, 64, 512]⟩
abbrev S16x1x64x512 : Shape := ⟨4, ![16, 1, 64, 512]⟩
abbrev S16x8x64x512 : Shape := ⟨4, ![16, 8, 64, 512]⟩
abbrev S4x4x8x64x512 : Shape := ⟨5, ![4, 4, 8, 64, 512]⟩
abbrev S8x4096x1024 : Shape := ⟨3, ![8, 4096, 1024]⟩
abbrev S1x4096x256 : Shape := ⟨3, ![1, 4096, 256]⟩
abbrev S1x256x256 : Shape := ⟨3, ![1, 256, 256]⟩
abbrev S1x4x8x64x512 : Shape := ⟨5, ![1, 4, 8, 64, 512]⟩
abbrev S1x256 : Shape := ⟨2, ![1, 256]⟩
abbrev S256x256 : Shape := ⟨2, ![256, 256]⟩
abbrev S1x64x256 : Shape := ⟨3, ![1, 64, 256]⟩
abbrev S64x256 : Shape := ⟨2, ![64, 256]⟩
abbrev S1x512x256 : Shape := ⟨3, ![1, 512, 256]⟩
abbrev S512x256 : Shape := ⟨2, ![512, 256]⟩
abbrev S256x512 : Shape := ⟨2, ![256, 512]⟩
abbrev S1x4x1x64x512 : Shape := ⟨5, ![1, 4, 1, 64, 512]⟩
abbrev S4x64x512 : Shape := ⟨3, ![4, 64, 512]⟩
abbrev S1024x256 : Shape := ⟨2, ![1024, 256]⟩
abbrev S256 : Shape := ⟨1, ![256]⟩
abbrev S256x1 : Shape := ⟨2, ![256, 1]⟩

abbrev nBuf : Space → Nat
  | .hbm => 43
  | .vmem => 16
  | .smem => 0
  | _ => 0

abbrev bufTy : (tb : Table) → Fin (tcTables nBuf tb) → BufTy
  | .hbm, ⟨0, _⟩ => ⟨S8x4096x10752, .bf16⟩
  | .hbm, ⟨1, _⟩ => ⟨S8x256x10752, .bf16⟩
  | .hbm, ⟨2, _⟩ => ⟨S1x16x15x31, .f32⟩
  | .hbm, ⟨3, _⟩ => ⟨S31x4096, .f32⟩
  | .hbm, ⟨4, _⟩ => ⟨S64x64, .i1⟩
  | .hbm, ⟨5, _⟩ => ⟨S1x1x64x64, .i1⟩
  | .hbm, ⟨6, _⟩ => ⟨S16x15x31, .f32⟩
  | .hbm, ⟨7, _⟩ => ⟨S240x31, .f32⟩
  | .hbm, ⟨8, _⟩ => ⟨S240x4096, .f32⟩
  | .hbm, ⟨9, _⟩ => ⟨S16x15x64x64, .f32⟩
  | .hbm, ⟨10, _⟩ => ⟨S_, .f32⟩
  | .hbm, ⟨11, _⟩ => ⟨S_, .f32⟩
  | .hbm, ⟨12, _⟩ => ⟨S16x15x64x64, .i1⟩
  | .hbm, ⟨13, _⟩ => ⟨S16x15x64x64, .f32⟩
  | .hbm, ⟨14, _⟩ => ⟨S16x15x64x64, .f32⟩
  | .hbm, ⟨15, _⟩ => ⟨S16x64x15x64, .f32⟩
  | .hbm, ⟨16, _⟩ => ⟨S16x64x8x64, .f32⟩
  | .hbm, ⟨17, _⟩ => ⟨S16x64x512, .f32⟩
  | .hbm, ⟨18, _⟩ => ⟨S16x64x8x64, .f32⟩
  | .hbm, ⟨19, _⟩ => ⟨S16x64x512, .f32⟩
  | .hbm, ⟨20, _⟩ => ⟨S16x64x8x64, .f32⟩
  | .hbm, ⟨21, _⟩ => ⟨S16x64x512, .f32⟩
  | .hbm, ⟨22, _⟩ => ⟨S16x64x8x64, .f32⟩
  | .hbm, ⟨23, _⟩ => ⟨S16x64x512, .f32⟩
  | .hbm, ⟨24, _⟩ => ⟨S16x64x8x64, .f32⟩
  | .hbm, ⟨25, _⟩ => ⟨S16x64x512, .f32⟩
  | .hbm, ⟨26, _⟩ => ⟨S16x64x8x64, .f32⟩
  | .hbm, ⟨27, _⟩ => ⟨S16x64x512, .f32⟩
  | .hbm, ⟨28, _⟩ => ⟨S16x64x8x64, .f32⟩
  | .hbm, ⟨29, _⟩ => ⟨S16x64x512, .f32⟩
  | .hbm, ⟨30, _⟩ => ⟨S16x64x8x64, .f32⟩
  | .hbm, ⟨31, _⟩ => ⟨S16x64x512, .f32⟩
  | .hbm, ⟨32, _⟩ => ⟨S16x1x64x512, .f32⟩
  | .hbm, ⟨33, _⟩ => ⟨S16x1x64x512, .f32⟩
  | .hbm, ⟨34, _⟩ => ⟨S16x1x64x512, .f32⟩
  | .hbm, ⟨35, _⟩ => ⟨S16x1x64x512, .f32⟩
  | .hbm, ⟨36, _⟩ => ⟨S16x1x64x512, .f32⟩
  | .hbm, ⟨37, _⟩ => ⟨S16x1x64x512, .f32⟩
  | .hbm, ⟨38, _⟩ => ⟨S16x1x64x512, .f32⟩
  | .hbm, ⟨39, _⟩ => ⟨S16x1x64x512, .f32⟩
  | .hbm, ⟨40, _⟩ => ⟨S16x8x64x512, .f32⟩
  | .hbm, ⟨41, _⟩ => ⟨S4x4x8x64x512, .f32⟩
  | .hbm, ⟨42, _⟩ => ⟨S8x4096x1024, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x4x8x64x512, .f32⟩
  | .local _ .vmem, ⟨13, _⟩ => ⟨S1x4x8x64x512, .f32⟩
  | .local _ .vmem, ⟨14, _⟩ => ⟨S1x4096x256, .bf16⟩
  | .local _ .vmem, ⟨15, _⟩ => ⟨S1x4096x256, .bf16⟩
  | _, _ => ⟨S8x4096x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_32 : BitVec 32 := 0#32
  let c8_i32 : BitVec 32 := 8#32
  let v109 : BitVec 32 := Scalar.addi c0_i32_32 c8_i32
  let c1_i32_33 : BitVec 32 := 1#32
  ⟨c0_i32_32, v109, c1_i32_33⟩
def k0_mult1 (k0_t1 : Fin k0_t1_loop.trips) : BitVec 32 :=
  let c0_i32_32 : BitVec 32 := 0#32
  let c1_i32_33 : BitVec 32 := 1#32
  let arg10 : BitVec 32 := Scf.iv c0_i32_32 c1_i32_33 k0_t1
  let c8_i32_35 : BitVec 32 := 8#32
  let v110 : BitVec 32 := Scalar.muli arg10 c8_i32_35
  let c0_i32_36 : BitVec 32 := 0#32
  let v111 : BitVec 32 := Scalar.addi v110 c0_i32_36
  let c0_i32_38 : BitVec 32 := 0#32
  let v114 : BitVec 32 := Scalar.addi v111 c0_i32_38
  let c64_i32_41 : BitVec 32 := 64#32
  let v118 : BitVec 32 := Scalar.muli v114 c64_i32_41
  v118
def k0_mult2 (k0_t1 : Fin k0_t1_loop.trips) : BitVec 32 :=
  let c56_i32 : BitVec 32 := 56#32
  let c0_i32_40 : BitVec 32 := 0#32
  let c0_i32_32 : BitVec 32 := 0#32
  let c1_i32_33 : BitVec 32 := 1#32
  let arg10 : BitVec 32 := Scf.iv c0_i32_32 c1_i32_33 k0_t1
  let c8_i32_35 : BitVec 32 := 8#32
  let v110 : BitVec 32 := Scalar.muli arg10 c8_i32_35
  let c0_i32_36 : BitVec 32 := 0#32
  let v111 : BitVec 32 := Scalar.addi v110 c0_i32_36
  let c0_i32_38 : BitVec 32 := 0#32
  let v114 : BitVec 32 := Scalar.addi v111 c0_i32_38
  let c4_i32_39 : BitVec 32 := 4#32
  let v115 : BitVec 32 := Scalar.subi v114 c4_i32_39
  let v116 : BitVec 32 := Scalar.maxsi c0_i32_40 v115
  let v117 : BitVec 32 := Scalar.minsi c56_i32 v116
  let c64_i32_42 : BitVec 32 := 64#32
  let v120 : BitVec 32 := Scalar.muli v117 c64_i32_42
  v120
def k0_off1 (k0_t1 : Fin k0_t1_loop.trips) (c0_i32_36 : BitVec 32) (c0_i32_38 : BitVec 32) : Fin 3 → Nat :=
  let c0_43 : Index := 0#32
  let c0_i32_32 : BitVec 32 := 0#32
  let c1_i32_33 : BitVec 32 := 1#32
  let arg10 : BitVec 32 := Scf.iv c0_i32_32 c1_i32_33 k0_t1
  let c8_i32_35 : BitVec 32 := 8#32
  let v110 : BitVec 32 := Scalar.muli arg10 c8_i32_35
  let v111 : BitVec 32 := Scalar.addi v110 c0_i32_36
  let v114 : BitVec 32 := Scalar.addi v111 c0_i32_38
  let c64_i32_41 : BitVec 32 := 64#32
  let v118 : BitVec 32 := Scalar.muli v114 c64_i32_41
  let v119 : BitVec 32 := v118
  let v122 : Index := Scalar.indexCast v119
  let c0_44 : Index := 0#32
  ![0, v122.toNat, 0]
def k0_off2 (k0_t1 : Fin k0_t1_loop.trips) (c0_i32_36 : BitVec 32) (c0_i32_38 : BitVec 32) : Fin 3 → Nat :=
  let c0_49 : Index := 0#32
  let c56_i32 : BitVec 32 := 56#32
  let c0_i32_40 : BitVec 32 := 0#32
  let c0_i32_32 : BitVec 32 := 0#32
  let c1_i32_33 : BitVec 32 := 1#32
  let arg10 : BitVec 32 := Scf.iv c0_i32_32 c1_i32_33 k0_t1
  let c8_i32_35 : BitVec 32 := 8#32
  let v110 : BitVec 32 := Scalar.muli arg10 c8_i32_35
  let v111 : BitVec 32 := Scalar.addi v110 c0_i32_36
  let v114 : BitVec 32 := Scalar.addi v111 c0_i32_38
  let c4_i32_39 : BitVec 32 := 4#32
  let v115 : BitVec 32 := Scalar.subi v114 c4_i32_39
  let v116 : BitVec 32 := Scalar.maxsi c0_i32_40 v115
  let v117 : BitVec 32 := Scalar.minsi c56_i32 v116
  let c64_i32_42 : BitVec 32 := 64#32
  let v120 : BitVec 32 := Scalar.muli v117 c64_i32_42
  let v121 : BitVec 32 := v120
  let v144 : Index := Scalar.indexCast v121
  let c0_50 : Index := 0#32
  ![0, v144.toNat, 0]
def k0_off3 (k0_t1 : Fin k0_t1_loop.trips) (c0_i32_36 : BitVec 32) (c0_i32_38 : BitVec 32) : Fin 5 → Nat :=
  let c0_52 : Index := 0#32
  let c0_53 : Index := 0#32
  let c0_i32_32 : BitVec 32 := 0#32
  let c1_i32_33 : BitVec 32 := 1#32
  let arg10 : BitVec 32 := Scf.iv c0_i32_32 c1_i32_33 k0_t1
  let c8_i32_35 : BitVec 32 := 8#32
  let v110 : BitVec 32 := Scalar.muli arg10 c8_i32_35
  let v111 : BitVec 32 := Scalar.addi v110 c0_i32_36
  let v114 : BitVec 32 := Scalar.addi v111 c0_i32_38
  let c56_i32 : BitVec 32 := 56#32
  let c0_i32_40 : BitVec 32 := 0#32
  let c4_i32_39 : BitVec 32 := 4#32
  let v115 : BitVec 32 := Scalar.subi v114 c4_i32_39
  let v116 : BitVec 32 := Scalar.maxsi c0_i32_40 v115
  let v117 : BitVec 32 := Scalar.minsi c56_i32 v116
  let v148 : BitVec 32 := Scalar.subi v114 v117
  let v149 : Index := Scalar.indexCast v148
  let c0_54 : Index := 0#32
  let c0_55 : Index := 0#32
  ![0, 0, v149.toNat, 0, 0]
def k0_mult3 (k0_t1 : Fin k0_t1_loop.trips) : BitVec 32 :=
  let c0_i32_32 : BitVec 32 := 0#32
  let c1_i32_33 : BitVec 32 := 1#32
  let arg10 : BitVec 32 := Scf.iv c0_i32_32 c1_i32_33 k0_t1
  let c8_i32_35 : BitVec 32 := 8#32
  let v110 : BitVec 32 := Scalar.muli arg10 c8_i32_35
  let c0_i32_36 : BitVec 32 := 0#32
  let v111 : BitVec 32 := Scalar.addi v110 c0_i32_36
  let c1_i32_59 : BitVec 32 := 1#32
  let v159 : BitVec 32 := Scalar.addi v111 c1_i32_59
  let c64_i32_63 : BitVec 32 := 64#32
  let v163 : BitVec 32 := Scalar.muli v159 c64_i32_63
  v163
def k0_mult4 (k0_t1 : Fin k0_t1_loop.trips) : BitVec 32 :=
  let c56_i32_62 : BitVec 32 := 56#32
  let c0_i32_61 : BitVec 32 := 0#32
  let c0_i32_32 : BitVec 32 := 0#32
  let c1_i32_33 : BitVec 32 := 1#32
  let arg10 : BitVec 32 := Scf.iv c0_i32_32 c1_i32_33 k0_t1
  let c8_i32_35 : BitVec 32 := 8#32
  let v110 : BitVec 32 := Scalar.muli arg10 c8_i32_35
  let c0_i32_36 : BitVec 32 := 0#32
  let v111 : BitVec 32 := Scalar.addi v110 c0_i32_36
  let c1_i32_59 : BitVec 32 := 1#32
  let v159 : BitVec 32 := Scalar.addi v111 c1_i32_59
  let c4_i32_60 : BitVec 32 := 4#32
  let v160 : BitVec 32 := Scalar.subi v159 c4_i32_60
  let v161 : BitVec 32 := Scalar.maxsi c0_i32_61 v160
  let v162 : BitVec 32 := Scalar.minsi c56_i32_62 v161
  let c64_i32_64 : BitVec 32 := 64#32
  let v165 : BitVec 32 := Scalar.muli v162 c64_i32_64
  v165
def k0_mult5 (k0_t1 : Fin k0_t1_loop.trips) : BitVec 32 :=
  let c0_i32_32 : BitVec 32 := 0#32
  let c1_i32_33 : BitVec 32 := 1#32
  let arg10 : BitVec 32 := Scf.iv c0_i32_32 c1_i32_33 k0_t1
  let c8_i32_35 : BitVec 32 := 8#32
  let v110 : BitVec 32 := Scalar.muli arg10 c8_i32_35
  let c0_i32_36 : BitVec 32 := 0#32
  let v111 : BitVec 32 := Scalar.addi v110 c0_i32_36
  let c2_i32_82 : BitVec 32 := 2#32
  let v204 : BitVec 32 := Scalar.addi v111 c2_i32_82
  let c64_i32_86 : BitVec 32 := 64#32
  let v208 : BitVec 32 := Scalar.muli v204 c64_i32_86
  v208
def k0_mult6 (k0_t1 : Fin k0_t1_loop.trips) : BitVec 32 :=
  let c56_i32_85 : BitVec 32 := 56#32
  let c0_i32_84 : BitVec 32 := 0#32
  let c0_i32_32 : BitVec 32 := 0#32
  let c1_i32_33 : BitVec 32 := 1#32
  let arg10 : BitVec 32 := Scf.iv c0_i32_32 c1_i32_33 k0_t1
  let c8_i32_35 : BitVec 32 := 8#32
  let v110 : BitVec 32 := Scalar.muli arg10 c8_i32_35
  let c0_i32_36 : BitVec 32 := 0#32
  let v111 : BitVec 32 := Scalar.addi v110 c0_i32_36
  let c2_i32_82 : BitVec 32 := 2#32
  let v204 : BitVec 32 := Scalar.addi v111 c2_i32_82
  let c4_i32_83 : BitVec 32 := 4#32
  let v205 : BitVec 32 := Scalar.subi v204 c4_i32_83
  let v206 : BitVec 32 := Scalar.maxsi c0_i32_84 v205
  let v207 : BitVec 32 := Scalar.minsi c56_i32_85 v206
  let c64_i32_87 : BitVec 32 := 64#32
  let v210 : BitVec 32 := Scalar.muli v207 c64_i32_87
  v210
def k0_mult7 (k0_t1 : Fin k0_t1_loop.trips) : BitVec 32 :=
  let c0_i32_32 : BitVec 32 := 0#32
  let c1_i32_33 : BitVec 32 := 1#32
  let arg10 : BitVec 32 := Scf.iv c0_i32_32 c1_i32_33 k0_t1
  let c8_i32_35 : BitVec 32 := 8#32
  let v110 : BitVec 32 := Scalar.muli arg10 c8_i32_35
  let c0_i32_36 : BitVec 32 := 0#32
  let v111 : BitVec 32 := Scalar.addi v110 c0_i32_36
  let c3_i32_105 : BitVec 32 := 3#32
  let v249 : BitVec 32 := Scalar.addi v111 c3_i32_105
  let c64_i32_109 : BitVec 32 := 64#32
  let v253 : BitVec 32 := Scalar.muli v249 c64_i32_109
  v253
def k0_mult8 (k0_t1 : Fin k0_t1_loop.trips) : BitVec 32 :=
  let c56_i32_108 : BitVec 32 := 56#32
  let c0_i32_107 : BitVec 32 := 0#32
  let c0_i32_32 : BitVec 32 := 0#32
  let c1_i32_33 : BitVec 32 := 1#32
  let arg10 : BitVec 32 := Scf.iv c0_i32_32 c1_i32_33 k0_t1
  let c8_i32_35 : BitVec 32 := 8#32
  let v110 : BitVec 32 := Scalar.muli arg10 c8_i32_35
  let c0_i32_36 : BitVec 32 := 0#32
  let v111 : BitVec 32 := Scalar.addi v110 c0_i32_36
  let c3_i32_105 : BitVec 32 := 3#32
  let v249 : BitVec 32 := Scalar.addi v111 c3_i32_105
  let c4_i32_106 : BitVec 32 := 4#32
  let v250 : BitVec 32 := Scalar.subi v249 c4_i32_106
  let v251 : BitVec 32 := Scalar.maxsi c0_i32_107 v250
  let v252 : BitVec 32 := Scalar.minsi c56_i32_108 v251
  let c64_i32_110 : BitVec 32 := 64#32
  let v255 : BitVec 32 := Scalar.muli v252 c64_i32_110
  v255
def k0_mult9 (k0_t1 : Fin k0_t1_loop.trips) : BitVec 32 :=
  let c0_i32_32 : BitVec 32 := 0#32
  let c1_i32_33 : BitVec 32 := 1#32
  let arg10 : BitVec 32 := Scf.iv c0_i32_32 c1_i32_33 k0_t1
  let c8_i32_37 : BitVec 32 := 8#32
  let v112 : BitVec 32 := Scalar.muli arg10 c8_i32_37
  let c4_i32 : BitVec 32 := 4#32
  let v113 : BitVec 32 := Scalar.addi v112 c4_i32
  let c0_i32_145 : BitVec 32 := 0#32
  let v372 : BitVec 32 := Scalar.addi v113 c0_i32_145
  let c64_i32_149 : BitVec 32 := 64#32
  let v376 : BitVec 32 := Scalar.muli v372 c64_i32_149
  v376
def k0_mult10 (k0_t1 : Fin k0_t1_loop.trips) : BitVec 32 :=
  let c56_i32_148 : BitVec 32 := 56#32
  let c0_i32_147 : BitVec 32 := 0#32
  let c0_i32_32 : BitVec 32 := 0#32
  let c1_i32_33 : BitVec 32 := 1#32
  let arg10 : BitVec 32 := Scf.iv c0_i32_32 c1_i32_33 k0_t1
  let c8_i32_37 : BitVec 32 := 8#32
  let v112 : BitVec 32 := Scalar.muli arg10 c8_i32_37
  let c4_i32 : BitVec 32 := 4#32
  let v113 : BitVec 32 := Scalar.addi v112 c4_i32
  let c0_i32_145 : BitVec 32 := 0#32
  let v372 : BitVec 32 := Scalar.addi v113 c0_i32_145
  let c4_i32_146 : BitVec 32 := 4#32
  let v373 : BitVec 32 := Scalar.subi v372 c4_i32_146
  let v374 : BitVec 32 := Scalar.maxsi c0_i32_147 v373
  let v375 : BitVec 32 := Scalar.minsi c56_i32_148 v374
  let c64_i32_150 : BitVec 32 := 64#32
  let v378 : BitVec 32 := Scalar.muli v375 c64_i32_150
  v378
def k0_mult11 (k0_t1 : Fin k0_t1_loop.trips) : BitVec 32 :=
  let c0_i32_32 : BitVec 32 := 0#32
  let c1_i32_33 : BitVec 32 := 1#32
  let arg10 : BitVec 32 := Scf.iv c0_i32_32 c1_i32_33 k0_t1
  let c8_i32_37 : BitVec 32 := 8#32
  let v112 : BitVec 32 := Scalar.muli arg10 c8_i32_37
  let c4_i32 : BitVec 32 := 4#32
  let v113 : BitVec 32 := Scalar.addi v112 c4_i32
  let c1_i32_168 : BitVec 32 := 1#32
  let v417 : BitVec 32 := Scalar.addi v113 c1_i32_168
  let c64_i32_172 : BitVec 32 := 64#32
  let v421 : BitVec 32 := Scalar.muli v417 c64_i32_172
  v421
def k0_mult12 (k0_t1 : Fin k0_t1_loop.trips) : BitVec 32 :=
  let c56_i32_171 : BitVec 32 := 56#32
  let c0_i32_170 : BitVec 32 := 0#32
  let c0_i32_32 : BitVec 32 := 0#32
  let c1_i32_33 : BitVec 32 := 1#32
  let arg10 : BitVec 32 := Scf.iv c0_i32_32 c1_i32_33 k0_t1
  let c8_i32_37 : BitVec 32 := 8#32
  let v112 : BitVec 32 := Scalar.muli arg10 c8_i32_37
  let c4_i32 : BitVec 32 := 4#32
  let v113 : BitVec 32 := Scalar.addi v112 c4_i32
  let c1_i32_168 : BitVec 32 := 1#32
  let v417 : BitVec 32 := Scalar.addi v113 c1_i32_168
  let c4_i32_169 : BitVec 32 := 4#32
  let v418 : BitVec 32 := Scalar.subi v417 c4_i32_169
  let v419 : BitVec 32 := Scalar.maxsi c0_i32_170 v418
  let v420 : BitVec 32 := Scalar.minsi c56_i32_171 v419
  let c64_i32_173 : BitVec 32 := 64#32
  let v423 : BitVec 32 := Scalar.muli v420 c64_i32_173
  v423
def k0_mult13 (k0_t1 : Fin k0_t1_loop.trips) : BitVec 32 :=
  let c0_i32_32 : BitVec 32 := 0#32
  let c1_i32_33 : BitVec 32 := 1#32
  let arg10 : BitVec 32 := Scf.iv c0_i32_32 c1_i32_33 k0_t1
  let c8_i32_37 : BitVec 32 := 8#32
  let v112 : BitVec 32 := Scalar.muli arg10 c8_i32_37
  let c4_i32 : BitVec 32 := 4#32
  let v113 : BitVec 32 := Scalar.addi v112 c4_i32
  let c2_i32_191 : BitVec 32 := 2#32
  let v462 : BitVec 32 := Scalar.addi v113 c2_i32_191
  let c64_i32_195 : BitVec 32 := 64#32
  let v466 : BitVec 32 := Scalar.muli v462 c64_i32_195
  v466
def k0_mult14 (k0_t1 : Fin k0_t1_loop.trips) : BitVec 32 :=
  let c56_i32_194 : BitVec 32 := 56#32
  let c0_i32_193 : BitVec 32 := 0#32
  let c0_i32_32 : BitVec 32 := 0#32
  let c1_i32_33 : BitVec 32 := 1#32
  let arg10 : BitVec 32 := Scf.iv c0_i32_32 c1_i32_33 k0_t1
  let c8_i32_37 : BitVec 32 := 8#32
  let v112 : BitVec 32 := Scalar.muli arg10 c8_i32_37
  let c4_i32 : BitVec 32 := 4#32
  let v113 : BitVec 32 := Scalar.addi v112 c4_i32
  let c2_i32_191 : BitVec 32 := 2#32
  let v462 : BitVec 32 := Scalar.addi v113 c2_i32_191
  let c4_i32_192 : BitVec 32 := 4#32
  let v463 : BitVec 32 := Scalar.subi v462 c4_i32_192
  let v464 : BitVec 32 := Scalar.maxsi c0_i32_193 v463
  let v465 : BitVec 32 := Scalar.minsi c56_i32_194 v464
  let c64_i32_196 : BitVec 32 := 64#32
  let v468 : BitVec 32 := Scalar.muli v465 c64_i32_196
  v468
def k0_mult15 (k0_t1 : Fin k0_t1_loop.trips) : BitVec 32 :=
  let c0_i32_32 : BitVec 32 := 0#32
  let c1_i32_33 : BitVec 32 := 1#32
  let arg10 : BitVec 32 := Scf.iv c0_i32_32 c1_i32_33 k0_t1
  let c8_i32_37 : BitVec 32 := 8#32
  let v112 : BitVec 32 := Scalar.muli arg10 c8_i32_37
  let c4_i32 : BitVec 32 := 4#32
  let v113 : BitVec 32 := Scalar.addi v112 c4_i32
  let c3_i32_214 : BitVec 32 := 3#32
  let v507 : BitVec 32 := Scalar.addi v113 c3_i32_214
  let c64_i32_218 : BitVec 32 := 64#32
  let v511 : BitVec 32 := Scalar.muli v507 c64_i32_218
  v511
def k0_mult16 (k0_t1 : Fin k0_t1_loop.trips) : BitVec 32 :=
  let c56_i32_217 : BitVec 32 := 56#32
  let c0_i32_216 : BitVec 32 := 0#32
  let c0_i32_32 : BitVec 32 := 0#32
  let c1_i32_33 : BitVec 32 := 1#32
  let arg10 : BitVec 32 := Scf.iv c0_i32_32 c1_i32_33 k0_t1
  let c8_i32_37 : BitVec 32 := 8#32
  let v112 : BitVec 32 := Scalar.muli arg10 c8_i32_37
  let c4_i32 : BitVec 32 := 4#32
  let v113 : BitVec 32 := Scalar.addi v112 c4_i32
  let c3_i32_214 : BitVec 32 := 3#32
  let v507 : BitVec 32 := Scalar.addi v113 c3_i32_214
  let c4_i32_215 : BitVec 32 := 4#32
  let v508 : BitVec 32 := Scalar.subi v507 c4_i32_215
  let v509 : BitVec 32 := Scalar.maxsi c0_i32_216 v508
  let v510 : BitVec 32 := Scalar.minsi c56_i32_217 v509
  let c64_i32_219 : BitVec 32 := 64#32
  let v513 : BitVec 32 := Scalar.muli v510 c64_i32_219
  v513
def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg1.toNat, c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x8x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x4096x10752 : Shape := ⟨3, ![8, 4096, 10752]⟩
abbrev S8x256x10752 : Shape := ⟨3, ![8, 256, 10752]⟩
abbrev S1x16x15x31 : Shape := ⟨4, ![1, 16, 15, 31]⟩
abbrev S_ : Shape := ⟨0, ![]⟩
abbrev S8x4096x1024 : Shape := ⟨3, ![8, 4096, 1024]⟩
abbrev S8x64x64x16x64 : Shape := ⟨5, ![8, 64, 64, 16, 64]⟩
abbrev S8x256x1024 : Shape := ⟨3, ![8, 256, 1024]⟩
abbrev S8x256x16x64 : Shape := ⟨4, ![8, 256, 16, 64]⟩
abbrev S64 : Shape := ⟨1, ![64]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S1x64 : Shape := ⟨2, ![1, 64]⟩
abbrev S64x64 : Shape := ⟨2, ![64, 64]⟩
abbrev S16x15x31 : Shape := ⟨3, ![16, 15, 31]⟩
abbrev S64x64x1 : Shape := ⟨3, ![64, 64, 1]⟩
abbrev S16x15x64x64 : Shape := ⟨4, ![16, 15, 64, 64]⟩
abbrev S64x8x1 : Shape := ⟨3, ![64, 8, 1]⟩
abbrev S16x64x8x64x64 : Shape := ⟨5, ![16, 64, 8, 64, 64]⟩
abbrev S64x16x64x8x64 : Shape := ⟨5, ![64, 16, 64, 8, 64]⟩
abbrev S64x16x64x512 : Shape := ⟨4, ![64, 16, 64, 512]⟩
abbrev S64x1x64 : Shape := ⟨3, ![64, 1, 64]⟩
abbrev S64x8x64 : Shape := ⟨3, ![64, 8, 64]⟩
abbrev S64x512 : Shape := ⟨2, ![64, 512]⟩
abbrev S8x64x8x64x16x64 : Shape := ⟨6, ![8, 64, 8, 64, 16, 64]⟩
abbrev S8x64x512x16x64 : Shape := ⟨5, ![8, 64, 512, 16, 64]⟩
abbrev S8x64x16x64x512 : Shape := ⟨5, ![8, 64, 16, 64, 512]⟩
abbrev S1x64x16x64x512 : Shape := ⟨5, ![1, 64, 16, 64, 512]⟩
abbrev S8x16x256x64x64 : Shape := ⟨5, ![8, 16, 256, 64, 64]⟩
abbrev S8x64x16x64x256 : Shape := ⟨5, ![8, 64, 16, 64, 256]⟩
abbrev S8x64x16x64x768 : Shape := ⟨5, ![8, 64, 16, 64, 768]⟩
abbrev S8x64x16x64 : Shape := ⟨4, ![8, 64, 16, 64]⟩
abbrev S8x64x16x64x1 : Shape := ⟨5, ![8, 64, 16, 64, 1]⟩
abbrev S8x64x16x64x64 : Shape := ⟨5, ![8, 64, 16, 64, 64]⟩
abbrev S8x16x64x64x64 : Shape := ⟨5, ![8, 16, 64, 64, 64]⟩

abbrev nBuf : Space → Nat
  | .hbm => 165
  | .vmem => 0
  | .smem => 0
  | _ => 0

abbrev hbmTy0_0 (i : Nat) : BufTy := match i % 128 with
  | 0 => ⟨S8x4096x10752, .bf16⟩
  | 1 => ⟨S8x256x10752, .bf16⟩
  | 2 => ⟨S1x16x15x31, .f32⟩
  | 3 => ⟨S_, .f32⟩
  | 4 => ⟨S_, .f32⟩
  | 5 => ⟨S8x4096x1024, .bf16⟩
  | 6 => ⟨S8x4096x1024, .f32⟩
  | 7 => ⟨S8x64x64x16x64, .f32⟩
  | 8 => ⟨S8x4096x1024, .bf16⟩
  | 9 => ⟨S8x4096x1024, .f32⟩
  | 10 => ⟨S8x4096x1024, .f32⟩
  | 11 => ⟨S8x4096x1024, .f32⟩
  | 12 => ⟨S8x64x64x16x64, .f32⟩
  | 13 => ⟨S8x4096x1024, .bf16⟩
  | 14 => ⟨S8x4096x1024, .f32⟩
  | 15 => ⟨S8x64x64x16x64, .f32⟩
  | 16 => ⟨S8x4096x1024, .bf16⟩
  | 17 => ⟨S8x4096x1024, .f32⟩
  | 18 => ⟨S8x256x1024, .bf16⟩
  | 19 => ⟨S8x256x1024, .f32⟩
  | 20 => ⟨S8x256x1024, .f32⟩
  | 21 => ⟨S8x256x1024, .f32⟩
  | 22 => ⟨S8x256x16x64, .f32⟩
  | 23 => ⟨S8x256x1024, .bf16⟩
  | 24 => ⟨S8x256x1024, .f32⟩
  | 25 => ⟨S8x256x16x64, .f32⟩
  | 26 => ⟨S64, .i32⟩
  | 27 => ⟨S_, .i32⟩
  | 28 => ⟨S64, .i32⟩
  | 29 => ⟨S64, .i32⟩
  | 30 => ⟨S_, .i32⟩
  | 31 => ⟨S_, .i32⟩
  | 32 => ⟨S_, .i32⟩
  | 33 => ⟨S64, .i32⟩
  | 34 => ⟨S64, .i32⟩
  | 35 => ⟨S_, .i32⟩
  | 36 => ⟨S64, .i32⟩
  | 37 => ⟨S64, .i32⟩
  | 38 => ⟨S64x1, .i32⟩
  | 39 => ⟨S8, .i32⟩
  | 40 => ⟨S1x8, .i32⟩
  | 41 => ⟨S64x8, .i32⟩
  | 42 => ⟨S64x8, .i32⟩
  | 43 => ⟨S64x8, .i32⟩
  | 44 => ⟨S64, .i32⟩
  | 45 => ⟨S_, .i32⟩
  | 46 => ⟨S64, .i32⟩
  | 47 => ⟨S64, .i32⟩
  | 48 => ⟨S_, .i32⟩
  | 49 => ⟨S_, .i32⟩
  | 50 => ⟨S_, .i32⟩
  | 51 => ⟨S64, .i32⟩
  | 52 => ⟨S64, .i32⟩
  | 53 => ⟨S_, .i32⟩
  | 54 => ⟨S64, .i32⟩
  | 55 => ⟨S64, .i32⟩
  | 56 => ⟨S1x64, .i32⟩
  | 57 => ⟨S64x1, .i32⟩
  | 58 => ⟨S64x64, .i32⟩
  | 59 => ⟨S64x64, .i32⟩
  | 60 => ⟨S64x64, .i1⟩
  | 61 => ⟨S1x64, .i32⟩
  | 62 => ⟨S64x1, .i32⟩
  | 63 => ⟨S_, .i32⟩
  | 64 => ⟨S64x1, .i32⟩
  | 65 => ⟨S64x1, .i32⟩
  | 66 => ⟨S64x64, .i32⟩
  | 67 => ⟨S64x64, .i32⟩
  | 68 => ⟨S64x64, .i1⟩
  | 69 => ⟨S64x64, .i1⟩
  | 70 => ⟨S64x1, .i32⟩
  | 71 => ⟨S64x8, .i32⟩
  | 72 => ⟨S64x8, .i32⟩
  | 73 => ⟨S_, .i32⟩
  | 74 => ⟨S64x8, .i32⟩
  | 75 => ⟨S64x8, .i32⟩
  | 76 => ⟨S_, .i32⟩
  | 77 => ⟨S64x8, .i32⟩
  | 78 => ⟨S64x8, .i32⟩
  | 79 => ⟨S1x64, .i32⟩
  | 80 => ⟨S64x1, .i32⟩
  | 81 => ⟨S64x64, .i32⟩
  | 82 => ⟨S64x64, .i32⟩
  | 83 => ⟨S64x64, .i32⟩
  | 84 => ⟨S_, .i32⟩
  | 85 => ⟨S64x64, .i32⟩
  | 86 => ⟨S64x64, .i32⟩
  | 87 => ⟨S_, .i32⟩
  | 88 => ⟨S64x64, .i32⟩
  | 89 => ⟨S64x64, .i32⟩
  | 90 => ⟨S_, .i32⟩
  | 91 => ⟨S_, .i32⟩
  | 92 => ⟨S_, .i32⟩
  | 93 => ⟨S64x64, .i32⟩
  | 94 => ⟨S64x64, .i32⟩
  | 95 => ⟨S_, .i32⟩
  | 96 => ⟨S64x64, .i32⟩
  | 97 => ⟨S64x64, .i32⟩
  | 98 => ⟨S16x15x31, .f32⟩
  | 99 => ⟨S64x64x1, .i32⟩
  | 100 => ⟨S16x15x64x64, .f32⟩
  | 101 => ⟨S64x8x1, .i32⟩
  | 102 => ⟨S16x64x8x64x64, .f32⟩
  | 103 => ⟨S64x16x64x8x64, .f32⟩
  | 104 => ⟨S64x16x64x512, .f32⟩
  | 105 => ⟨S64x1x64, .i1⟩
  | 106 => ⟨S64x8x64, .i1⟩
  | 107 => ⟨S64x512, .i1⟩
  | 108 => ⟨S64x8x1, .i32⟩
  | 109 => ⟨S8x64x8x64x16x64, .f32⟩
  | 110 => ⟨S8x64x512x16x64, .f32⟩
  | 111 => ⟨S64x8x1, .i32⟩
  | 112 => ⟨S8x64x8x64x16x64, .f32⟩
  | 113 => ⟨S8x64x512x16x64, .f32⟩
  | 114 => ⟨S8x64x16x64x512, .f32⟩
  | 115 => ⟨S_, .f32⟩
  | 116 => ⟨S8x64x16x64x512, .f32⟩
  | 117 => ⟨S8x64x16x64x512, .f32⟩
  | 118 => ⟨S1x64x16x64x512, .f32⟩
  | 119 => ⟨S8x64x16x64x512, .f32⟩
  | 120 => ⟨S8x64x16x64x512, .f32⟩
  | 121 => ⟨S_, .f32⟩
  | 122 => ⟨S_, .f32⟩
  | 123 => ⟨S8x64x16x64x512, .i1⟩
  | 124 => ⟨S8x64x16x64x512, .f32⟩
  | 125 => ⟨S8x64x16x64x512, .f32⟩
  | 126 => ⟨S8x16x256x64x64, .f32⟩
  | 127 => ⟨S8x64x16x64x256, .f32⟩
  | _ => ⟨S8x4096x10752, .bf16⟩

abbrev hbmTy0_1 (i : Nat) : BufTy := match i % 128 with
  | 0 => ⟨S_, .f32⟩
  | 1 => ⟨S8x64x16x64x256, .f32⟩
  | 2 => ⟨S8x64x16x64x256, .f32⟩
  | 3 => ⟨S8x64x16x64x768, .f32⟩
  | 4 => ⟨S_, .f32⟩
  | 5 => ⟨S8x64x16x64, .f32⟩
  | 6 => ⟨S_, .f32⟩
  | 7 => ⟨S8x64x16x64, .f32⟩
  | 8 => ⟨S8x64x16x64, .f32⟩
  | 9 => ⟨S8x64x16x64x1, .f32⟩
  | 10 => ⟨S8x64x16x64x768, .f32⟩
  | 11 => ⟨S8x64x16x64x768, .f32⟩
  | 12 => ⟨S8x64x16x64x768, .f32⟩
  | 13 => ⟨S_, .f32⟩
  | 14 => ⟨S8x64x16x64, .f32⟩
  | 15 => ⟨S8x64x16x64x1, .f32⟩
  | 16 => ⟨S8x64x16x64x768, .f32⟩
  | 17 => ⟨S8x64x16x64x768, .f32⟩
  | 18 => ⟨S8x64x16x64x512, .f32⟩
  | 19 => ⟨S8x64x16x64x64, .f32⟩
  | 20 => ⟨S8x64x64x16x64, .f32⟩
  | 21 => ⟨S8x64x16x64x256, .f32⟩
  | 22 => ⟨S8x16x64x64x64, .f32⟩
  | 23 => ⟨S8x64x64x16x64, .f32⟩
  | 24 => ⟨S8x64x64x16x64, .f32⟩
  | 25 => ⟨S8x4096x1024, .f32⟩
  | 26 => ⟨S8x4096x1024, .f32⟩
  | 27 => ⟨S8x4096x1024, .f32⟩
  | 28 => ⟨S_, .f32⟩
  | 29 => ⟨S8x4096x1024, .f32⟩
  | 30 => ⟨S8x4096x1024, .f32⟩
  | 31 => ⟨S_, .f32⟩
  | 32 => ⟨S8x4096x1024, .f32⟩
  | 33 => ⟨S8x4096x1024, .f32⟩
  | 34 => ⟨S8x4096x1024, .f32⟩
  | 35 => ⟨S8x4096x1024, .f32⟩
  | 36 => ⟨S8x4096x1024, .bf16⟩
  | _ => ⟨S8x4096x10752, .bf16⟩

abbrev hbmTy (i : Nat) : BufTy := match i / 128 with
  | 0 => hbmTy0_0 i
  | 1 => hbmTy0_1 i
  | _ => ⟨S8x4096x10752, .bf16⟩

abbrev bufTy : (tb : Table) → Fin (tcTables nBuf tb) → BufTy
  | .hbm, ⟨i, _⟩ => hbmTy i
  | _, _ => ⟨S8x4096x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c : Ref sig .tc := ⟨.hbm, 27, rfl⟩
abbrev main_v23 : Ref sig .tc := ⟨.hbm, 28, rfl⟩
abbrev main_v24 : Ref sig .tc := ⟨.hbm, 29, rfl⟩
abbrev main_c_0 : Ref sig .tc := ⟨.hbm, 30, rfl⟩
abbrev main_c_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_2 : Ref sig .tc := ⟨.hbm, 45, rfl⟩
abbrev main_v33 : Ref sig .tc := ⟨.hbm, 46, rfl⟩
abbrev main_v34 : Ref sig .tc := ⟨.hbm, 47, rfl⟩
abbrev main_c_3 : Ref sig .tc := ⟨.hbm, 48, rfl⟩
abbrev main_c_4 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_6 : Ref sig .tc := ⟨.hbm, 73, rfl⟩
abbrev main_v52 : Ref sig .tc := ⟨.hbm, 74, rfl⟩
abbrev main_v53 : Ref sig .tc := ⟨.hbm, 75, rfl⟩
abbrev main_c_7 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_8 : Ref sig .tc := ⟨.hbm, 84, rfl⟩
abbrev main_v61 : Ref sig .tc := ⟨.hbm, 85, rfl⟩
abbrev main_v62 : Ref sig .tc := ⟨.hbm, 86, rfl⟩
abbrev main_c_9 : Ref sig .tc := ⟨.hbm, 87, rfl⟩
abbrev main_v63 : Ref sig .tc := ⟨.hbm, 88, rfl⟩
abbrev main_v64 : Ref sig .tc := ⟨.hbm, 89, rfl⟩
abbrev main_c_10 : Ref sig .tc := ⟨.hbm, 90, rfl⟩
abbrev main_c_11 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_v65 : Ref sig .tc := ⟨.hbm, 97, rfl⟩
abbrev main_v66 : Ref sig .tc := ⟨.hbm, 98, rfl⟩
abbrev main_call3_v0 : Ref sig .tc := ⟨.hbm, 99, rfl⟩
abbrev main_v67 : Ref sig .tc := ⟨.hbm, 100, rfl⟩
abbrev main_call4_v0 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_call5_v0 : Ref sig .tc := ⟨.hbm, 108, rfl⟩
abbrev main_v74 : Ref sig .tc := ⟨.hbm, 109, rfl⟩
abbrev main_v75 : Ref sig .tc := ⟨.hbm, 110, rfl⟩
abbrev main_call6_v0 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_12 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_13 : Ref sig .tc := ⟨.hbm, 121, rfl⟩
abbrev main_call7_v0 : Ref sig .tc := ⟨.hbm, 122, rfl⟩
abbrev main_call7_v1 : Ref sig .tc := ⟨.hbm, 123, rfl⟩
abbrev main_call7_v2 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_14 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_15 : Ref sig .tc := ⟨.hbm, 132, rfl⟩
abbrev main_v90 : Ref sig .tc := ⟨.hbm, 133, rfl⟩
abbrev main_cst_16 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_17 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_call8_v0 : Ref sig .tc := ⟨.hbm, 154, rfl⟩
abbrev main_call8_v1 : Ref sig .tc := ⟨.hbm, 155, rfl⟩
abbrev main_call8_cst : Ref sig .tc := ⟨.hbm, 156, rfl⟩
abbrev main_call8_v2 : Ref sig .tc := ⟨.hbm, 157, rfl⟩
abbrev main_call8_v3 : Ref sig .tc := ⟨.hbm, 158, rfl⟩
abbrev main_call8_cst_0 : Ref sig .tc := ⟨.hbm, 159, rfl⟩
abbrev main_call8_v4 : Ref sig .tc := ⟨.hbm, 160, rfl⟩
abbrev main_call8_v5 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩

abbrev nD : Nat := 1
abbrev τ : Topo := Topo.v7x

variable {F : FTy → Type} [FloatOps F]
-- ==== Kernel2.lean ====
abbrev S8x4096x1024 : Shape := ⟨3, ![8, 4096, 1024]⟩
abbrev S16x1x3072 : Shape := ⟨3, ![16, 1, 3072]⟩
abbrev S1024x10752 : Shape := ⟨2, ![1024, 10752]⟩
abbrev S8x4096x10752 : Shape := ⟨3, ![8, 4096, 10752]⟩
abbrev S1x2048x1024 : Shape := ⟨3, ![1, 2048, 1024]⟩
abbrev S1x1x1024 : Shape := ⟨3, ![1, 1, 1024]⟩
abbrev S1024x1536 : Shape := ⟨2, ![1024, 1536]⟩
abbrev S1x2048x1536 : Shape := ⟨3, ![1, 2048, 1536]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩
abbrev S2048x1536 : Shape := ⟨2, ![2048, 1536]⟩

abbrev nBuf : Space → Nat
  | .hbm => 4
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S16x1x3072, .f32⟩
  | .hbm, ⟨2, _⟩ => ⟨S1024x10752, .bf16⟩
  | .hbm, ⟨3, _⟩ => ⟨S8x4096x10752, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1536, .bf16⟩
  | .local _ .vmem, ⟨7, _⟩ => ⟨S1024x1536, .bf16⟩
  | .local _ .vmem, ⟨8, _⟩ => ⟨S1x2048x1536, .bf16⟩
  | .local _ .vmem, ⟨9, _⟩ => ⟨S1x2048x1536, .bf16⟩
  | .local _ .vmem, ⟨10, _⟩ => ⟨S2048x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 7], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x2048x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference2Ideal.lean ====
abbrev S8x4096x1024 : Shape := ⟨3, ![8, 4096, 1024]⟩
abbrev S16x1x3072 : Shape := ⟨3, ![16, 1, 3072]⟩
abbrev S1024x10752 : Shape := ⟨2, ![1024, 10752]⟩
abbrev S8x1x1024 : Shape := ⟨3, ![8, 1, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S8x4096x10752 : Shape := ⟨3, ![8, 4096, 10752]⟩

abbrev nBuf : Space → Nat
  | .hbm => 42
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x1x3072, .f32⟩
  | .hbm, ⟨2, _⟩ => ⟨S1024x10752, .bf16⟩
  | .hbm, ⟨3, _⟩ => ⟨S8x1x1024, .f32⟩
  | .hbm, ⟨4, _⟩ => ⟨S8x1024, .f32⟩
  | .hbm, ⟨5, _⟩ => ⟨S8x1x1024, .f32⟩
  | .hbm, ⟨6, _⟩ => ⟨S8x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S8x1x1024, .f32⟩
  | .hbm, ⟨31, _⟩ => ⟨S_, .f32⟩
  | .hbm, ⟨32, _⟩ => ⟨S8x1x1024, .f32⟩
  | .hbm, ⟨33, _⟩ => ⟨S8x1x1024, .f32⟩
  | .hbm, ⟨34, _⟩ => ⟨S8x4096x1024, .f32⟩
  | .hbm, ⟨35, _⟩ => ⟨S8x4096x1024, .f32⟩
  | .hbm, ⟨36, _⟩ => ⟨S8x1x1024, .f32⟩
  | .hbm, ⟨37, _⟩ => ⟨S8x4096x1024, .f32⟩
  | .hbm, ⟨38, _⟩ => ⟨S8x4096x1024, .f32⟩
  | .hbm, ⟨39, _⟩ => ⟨S1024x10752, .f32⟩
  | .hbm, ⟨40, _⟩ => ⟨S8x4096x10752, .f32⟩
  | .hbm, ⟨41, _⟩ => ⟨S8x4096x10752, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x10752 : Shape := ⟨3, ![8, 4096, 10752]⟩
abbrev S16x1x3072 : Shape := ⟨3, ![16, 1, 3072]⟩
abbrev S1x1024 : Shape := ⟨2, ![1, 1024]⟩
abbrev S1024x1024 : Shape := ⟨2, ![1024, 1024]⟩
abbrev S1x512x1024 : Shape := ⟨3, ![1, 512, 1024]⟩
abbrev S1x1x1024 : Shape := ⟨3, ![1, 1, 1024]⟩
abbrev S256x256 : Shape := ⟨2, ![256, 256]⟩
abbrev S512x1024 : Shape := ⟨2, ![512, 1024]⟩
abbrev S512x256 : Shape := ⟨2, ![512, 256]⟩
abbrev S2048x256 : Shape := ⟨2, ![2048, 256]⟩
abbrev S512 : Shape := ⟨1, ![512]⟩
abbrev S512x1 : Shape := ⟨2, ![512, 1]⟩

abbrev nBuf : Space → Nat
  | .hbm => 16
  | .vmem => 29
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S8x4096x1024, .bf16⟩
  | .hbm, ⟨3, _⟩ => ⟨S8x4096x1024, .bf16⟩
  | .hbm, ⟨4, _⟩ => ⟨S8x4096x1024, .bf16⟩
  | .hbm, ⟨5, _⟩ => ⟨S8x4096x1024, .bf16⟩
  | .hbm, ⟨6, _⟩ => ⟨S8x4096x10752, .bf16⟩
  | .hbm, ⟨7, _⟩ => ⟨S16x1x3072, .f32⟩
  | .hbm, ⟨8, _⟩ => ⟨S1x1024, .f32⟩
  | .hbm, ⟨9, _⟩ => ⟨S1x1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x1x1024, .f32⟩
  | .local _ .vmem, ⟨19, _⟩ => ⟨S1x1x1024, .f32⟩
  | .local _ .vmem, ⟨20, _⟩ => ⟨S1x1024, .f32⟩
  | .local _ .vmem, ⟨21, _⟩ => ⟨S1x1024, .f32⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1x1024, .f32⟩
  | .local _ .vmem, ⟨26, _⟩ => ⟨S1x1024, .f32⟩
  | .local _ .vmem, ⟨27, _⟩ => ⟨S1x512x1024, .f32⟩
  | .local _ .vmem, ⟨28, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_8 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference3Ideal.lean ====
abbrev S8x4096x1024 : Shape := ⟨3, ![8, 4096, 1024]⟩
abbrev S8x4096x10752 : Shape := ⟨3, ![8, 4096, 10752]⟩
abbrev S16x1x3072 : Shape := ⟨3, ![16, 1, 3072]⟩
abbrev S1x1024 : Shape := ⟨2, ![1, 1024]⟩
abbrev S1024x1024 : Shape := ⟨2, ![1024, 1024]⟩
abbrev S8x1x1024 : Shape := ⟨3, ![8, 1, 1024]⟩
abbrev S8x1024 : Shape := ⟨2, ![8, 1024]⟩
abbrev S8x4096x16x64 : Shape := ⟨4, ![8, 4096, 16, 64]⟩
abbrev S_ : Shape := ⟨0, ![]⟩
abbrev S8x4096x16 : Shape := ⟨3, ![8, 4096, 16]⟩
abbrev S8x4096x16x1 : Shape := ⟨4, ![8, 4096, 16, 1]⟩
abbrev S1024 : Shape := ⟨1, ![1024]⟩
abbrev S1x1x1024 : Shape := ⟨3, ![1, 1, 1024]⟩
abbrev S8x4096 : Shape := ⟨2, ![8, 4096]⟩
abbrev S8x4096x1 : Shape := ⟨3, ![8, 4096, 1]⟩

abbrev nBuf : Space → Nat
  | .hbm => 137
  | .vmem => 0
  | .smem => 0
  | _ => 0

abbrev hbmTy0_0 (i : Nat) : BufTy := match i % 128 with
  | 0 => ⟨S8x4096x1024, .f32⟩
  | 1 => ⟨S8x4096x1024, .bf16⟩
  | 2 => ⟨S8x4096x1024, .bf16⟩
  | 3 => ⟨S8x4096x1024, .bf16⟩
  | 4 => ⟨S8x4096x1024, .bf16⟩
  | 5 => ⟨S8x4096x1024, .bf16⟩
  | 6 => ⟨S8x4096x10752, .bf16⟩
  | 7 => ⟨S16x1x3072, .f32⟩
  | 8 => ⟨S1x1024, .f32⟩
  | 9 => ⟨S1x1024, .f32⟩
  | 10 => ⟨S1024x1024, .bf16⟩
  | 11 => ⟨S1024x1024, .bf16⟩
  | 12 => ⟨S1024x1024, .bf16⟩
  | 13 => ⟨S1x1024, .f32⟩
  | 14 => ⟨S1x1024, .f32⟩
  | 15 => ⟨S8x4096x1024, .bf16⟩
  | 16 => ⟨S8x4096x1024, .f32⟩
  | 17 => ⟨S8x4096x1024, .bf16⟩
  | 18 => ⟨S8x4096x1024, .f32⟩
  | 19 => ⟨S8x4096x1024, .bf16⟩
  | 20 => ⟨S8x4096x1024, .f32⟩
  | 21 => ⟨S8x1x1024, .f32⟩
  | 22 => ⟨S8x1024, .f32⟩
  | 23 => ⟨S8x4096x1024, .f32⟩
  | 24 => ⟨S8x4096x1024, .f32⟩
  | 25 => ⟨S8x4096x1024, .f32⟩
  | 26 => ⟨S8x4096x16x64, .f32⟩
  | 27 => ⟨S_, .f32⟩
  | 28 => ⟨S8x4096x16, .f32⟩
  | 29 => ⟨S8x4096x16x1, .f32⟩
  | 30 => ⟨S_, .f32⟩
  | 31 => ⟨S8x4096x16x1, .f32⟩
  | 32 => ⟨S8x4096x16x1, .f32⟩
  | 33 => ⟨S8x4096x16x64, .f32⟩
  | 34 => ⟨S8x4096x16x64, .f32⟩
  | 35 => ⟨S8x4096x16x64, .f32⟩
  | 36 => ⟨S_, .f32⟩
  | 37 => ⟨S8x4096x16, .f32⟩
  | 38 => ⟨S8x4096x16x1, .f32⟩
  | 39 => ⟨S_, .f32⟩
  | 40 => ⟨S8x4096x16x1, .f32⟩
  | 41 => ⟨S8x4096x16x1, .f32⟩
  | 42 => ⟨S8x4096x16x64, .f32⟩
  | 43 => ⟨S8x4096x16x64, .f32⟩
  | 44 => ⟨S_, .f32⟩
  | 45 => ⟨S8x4096x16x1, .f32⟩
  | 46 => ⟨S8x4096x16x1, .f32⟩
  | 47 => ⟨S8x4096x16x1, .f32⟩
  | 48 => ⟨S8x4096x16x64, .f32⟩
  | 49 => ⟨S8x4096x16x64, .f32⟩
  | 50 => ⟨S8x4096x1024, .f32⟩
  | 51 => ⟨S1024, .f32⟩
  | 52 => ⟨S1x1x1024, .f32⟩
  | 53 => ⟨S8x4096x1024, .f32⟩
  | 54 => ⟨S8x4096x1024, .f32⟩
  | 55 => ⟨S1024, .f32⟩
  | 56 => ⟨S1x1x1024, .f32⟩
  | 57 => ⟨S8x4096x1024, .f32⟩
  | 58 => ⟨S8x4096x1024, .f32⟩
  | 59 => ⟨S8x4096x1024, .f32⟩
  | 60 => ⟨S8x4096x1024, .f32⟩
  | 61 => ⟨S8x4096x1024, .f32⟩
  | 62 => ⟨S8x4096x1024, .f32⟩
  | 63 => ⟨S8x4096x1024, .f32⟩
  | 64 => ⟨S8x4096x1024, .f32⟩
  | 65 => ⟨S_, .f32⟩
  | 66 => ⟨S8x4096x1024, .f32⟩
  | 67 => ⟨S8x4096x1024, .f32⟩
  | 68 => ⟨S_, .f32⟩
  | 69 => ⟨S8x4096x1024, .f32⟩
  | 70 => ⟨S8x4096x1024, .f32⟩
  | 71 => ⟨S8x4096x1024, .f32⟩
  | 72 => ⟨S8x4096x1024, .f32⟩
  | 73 => ⟨S8x4096x1024, .f32⟩
  | 74 => ⟨S8x4096x1024, .f32⟩
  | 75 => ⟨S_, .f32⟩
  | 76 => ⟨S8x4096x1024, .f32⟩
  | 77 => ⟨S8x4096x1024, .f32⟩
  | 78 => ⟨S_, .f32⟩
  | 79 => ⟨S8x4096x1024, .f32⟩
  | 80 => ⟨S8x4096x1024, .f32⟩
  | 81 => ⟨S8x4096x1024, .f32⟩
  | 82 => ⟨S1024x1024, .f32⟩
  | 83 => ⟨S8x4096x1024, .f32⟩
  | 84 => ⟨S8x4096x1024, .f32⟩
  | 85 => ⟨S8x4096x1024, .f32⟩
  | 86 => ⟨S8x4096x1024, .f32⟩
  | 87 => ⟨S_, .f32⟩
  | 88 => ⟨S8x4096x1024, .f32⟩
  | 89 => ⟨S8x4096x1024, .f32⟩
  | 90 => ⟨S_, .f32⟩
  | 91 => ⟨S8x4096x1024, .f32⟩
  | 92 => ⟨S8x4096x1024, .f32⟩
  | 93 => ⟨S1024x1024, .f32⟩
  | 94 => ⟨S8x4096x1024, .f32⟩
  | 95 => ⟨S8x4096x1024, .f32⟩
  | 96 => ⟨S8x4096x1024, .f32⟩
  | 97 => ⟨S1024x1024, .f32⟩
  | 98 => ⟨S8x4096x1024, .f32⟩
  | 99 => ⟨S_, .f32⟩
  | 100 => ⟨S8x4096x1024, .f32⟩
  | 101 => ⟨S8x4096x1024, .f32⟩
  | 102 => ⟨S8x1x1024, .f32⟩
  | 103 => ⟨S8x4096x1024, .f32⟩
  | 104 => ⟨S8x4096x1024, .f32⟩
  | 105 => ⟨S8x4096x1024, .f32⟩
  | 106 => ⟨S_, .f32⟩
  | 107 => ⟨S8x4096, .f32⟩
  | 108 => ⟨S8x4096x1, .f32⟩
  | 109 => ⟨S_, .f32⟩
  | 110 => ⟨S8x4096x1, .f32⟩
  | 111 => ⟨S8x4096x1, .f32⟩
  | 112 => ⟨S8x4096x1024, .f32⟩
  | 113 => ⟨S8x4096x1024, .f32⟩
  | 114 => ⟨S8x4096x1024, .f32⟩
  | 115 => ⟨S_, .f32⟩
  | 116 => ⟨S8x4096, .f32⟩
  | 117 => ⟨S8x4096x1, .f32⟩
  | 118 => ⟨S_, .f32⟩
  | 119 => ⟨S8x4096x1, .f32⟩
  | 120 => ⟨S8x4096x1, .f32⟩
  | 121 => ⟨S8x4096x1024, .f32⟩
  | 122 => ⟨S8x4096x1024, .f32⟩
  | 123 => ⟨S_, .f32⟩
  | 124 => ⟨S8x4096x1, .f32⟩
  | 125 => ⟨S8x4096x1, .f32⟩
  | 126 => ⟨S8x4096x1, .f32⟩
  | 127 => ⟨S8x4096x1024, .f32⟩
  | _ => ⟨S8x4096x1024, .f32⟩

abbrev hbmTy0_1 (i : Nat) : BufTy := match i % 128 with
  | 0 => ⟨S8x4096x1024, .f32⟩
  | 1 => ⟨S1024, .f32⟩
  | 2 => ⟨S1x1x1024, .f32⟩
  | 3 => ⟨S8x4096x1024, .f32⟩
  | 4 => ⟨S8x4096x1024, .f32⟩
  | 5 => ⟨S1024, .f32⟩
  | 6 => ⟨S1x1x1024, .f32⟩
  | 7 => ⟨S8x4096x1024, .f32⟩
  | 8 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_4 : Ref sig .tc := ⟨.hbm, 75, rfl⟩
abbrev main_v47 : Ref sig .tc := ⟨.hbm, 76, rfl⟩
abbrev main_v48 : Ref sig .tc := ⟨.hbm, 77, rfl⟩
abbrev main_cst_5 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_6 : Ref sig .tc := ⟨.hbm, 87, rfl⟩
abbrev main_v57 : Ref sig .tc := ⟨.hbm, 88, rfl⟩
abbrev main_v58 : Ref sig .tc := ⟨.hbm, 89, rfl⟩
abbrev main_cst_7 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_8 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_9 : Ref sig .tc := ⟨.hbm, 106, rfl⟩
abbrev main_v73 : Ref sig .tc := ⟨.hbm, 107, rfl⟩
abbrev main_v74 : Ref sig .tc := ⟨.hbm, 108, rfl⟩
abbrev main_cst_10 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_11 : Ref sig .tc := ⟨.hbm, 115, rfl⟩
abbrev main_v80 : Ref sig .tc := ⟨.hbm, 116, rfl⟩
abbrev main_v81 : Ref sig .tc := ⟨.hbm, 117, rfl⟩
abbrev main_cst_12 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_13 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩

abbrev nD : Nat := 1
abbrev τ : Topo := Topo.v7x

variable {F : FTy → Type} [FloatOps F]
-- ==== Kernel4.lean ====
abbrev S16x1024 : Shape := ⟨2, ![16, 1024]⟩
abbrev S1024x3072 : Shape := ⟨2, ![1024, 3072]⟩
abbrev S3072 : Shape := ⟨1, ![3072]⟩
abbrev S1x3072 : Shape := ⟨2, ![1, 3072]⟩
abbrev S16x3072 : Shape := ⟨2, ![16, 3072]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x3072, .f32⟩
  | .hbm, ⟨2, _⟩ => ⟨S3072, .f32⟩
  | .hbm, ⟨3, _⟩ => ⟨S1x3072, .f32⟩
  | .hbm, ⟨4, _⟩ => ⟨S16x3072, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16x1024 : Shape := ⟨2, ![16, 1024]⟩
abbrev S1024x3072 : Shape := ⟨2, ![1024, 3072]⟩
abbrev S3072 : Shape := ⟨1, ![3072]⟩
abbrev S_ : Shape := ⟨0, ![]⟩
abbrev S16x3072 : Shape := ⟨2, ![16, 3072]⟩
abbrev S1x3072 : Shape := ⟨2, ![1, 3072]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x3072, .f32⟩
  | .hbm, ⟨2, _⟩ => ⟨S3072, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x3072, .f32⟩
  | .hbm, ⟨13, _⟩ => ⟨S1x3072, .f32⟩
  | .hbm, ⟨14, _⟩ => ⟨S16x3072, .f32⟩
  | .hbm, ⟨15, _⟩ => ⟨S16x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.KRow.lean ====
/- One grid row of the kernel's body in named stages: the head-stacked queries, the scores of the window and of the
   context, their softmax, and the gated output; and the loop's stores as these stages of what the loop loads. -/
module

public import proofs.«01_k».proof.Proof.Gen.KernelIdeal.Value

@[expose] public section

set_option maxRecDepth 16384

noncomputable section

namespace Cert.KernelIdeal.Attn

open Cert.KernelIdeal Cert.KernelIdeal.Gen Idealize.ShloMosaic Idealize.ShloMosaic.TcCoe Idealize.SL.Sem

variable {F : FTy → Type} [FloatOps F] [Named F]

/-- A head's lanes over a row's columns. -/
def lanes (M : IVec S1x256 1) : IVec S64x256 1 :=
  broadcastTo S64x256 (shapeCast S1x256 M shapeCasts_S1x256_S1x256) broadcasts_S1x256_S64x256

/-- A row's queries, scaled. -/
def qsc (q : Vec F S1x64x256 .bf16) : FVec F S64x256 .bf16 :=
  mulf (shapeCast S64x256 q shapeCasts_S1x64x256_S64x256) (broadcast S64x256 (Scalar.ofBits .bf16 0x3E00#16))

/-- A row's queries of one head, zero on the others' lanes. -/
def qhd (M : IVec S1x256 1) (q : Vec F S1x64x256 .bf16) : FVec F S64x256 .bf16 :=
  select (lanes M) (qsc q) (broadcast S64x256 (Scalar.ofBits .bf16 0x0000#16))

/-- A row's queries, the heads stacked. -/
def qst (M0 M1 M2 M3 : IVec S1x256 1) (q : Vec F S1x64x256 .bf16) : FVec F S256x256 .bf16 :=
  concatenate S256x256 0 [⟨S64x256, qhd M0 q⟩, ⟨S64x256, qhd M1 q⟩, ⟨S64x256, qhd M2 q⟩, ⟨S64x256, qhd M3 q⟩] concatenates_S64x256_S64x256_S64x256_S64x256_S256x256_d0

/-- The window's scores. -/
def sB (Q : FVec F S256x256 .bf16) (k : Vec F S1x512x256 .bf16) (b : Vec F S1x4x1x64x512 .f32) : FVec F S256x512 .f32 :=
  addf (matmul dot_S256x256_S512x256_S256x512_1_1_0_0_n_n none Q (shapeCast S512x256 k shapeCasts_S1x512x256_S512x256) (constant S256x512 .f32 0x00000000#32))
    (mulf (shapeCast S256x512 (shapeCast S4x64x512 b shapeCasts_S1x4x1x64x512_S4x64x512) shapeCasts_S4x64x512_S256x512) (broadcast S256x512 (Named.named κ "log2e" 0x3FB8AA3B#32)))

/-- Four rows' scores of the context. -/
def sC (Q0 Q1 Q2 Q3 : FVec F S256x256 .bf16) (kc : FVec F S256x256 .bf16) : FVec F S1024x256 .f32 :=
  matmul dot_S1024x256_S256x256_S1024x256_1_1_0_0_n_n none (concatenate S1024x256 0 [⟨S256x256, Q0⟩, ⟨S256x256, Q1⟩, ⟨S256x256, Q2⟩, ⟨S256x256, Q3⟩] concatenates_S256x256_S256x256_S256x256_S256x256_S1024x256_d0) kc (constant S1024x256 .f32 0x00000000#32)

/-- The greatest score of a stacked row. -/
def mx (s : FVec F S256x512 .f32) (t : FVec F S256x256 .f32) : FVec F S256x1 .f32 :=
  maximumf (shapeCast S256x1 (multiReduction .maximumf [1] S256 s 0xFF800000#32 reduces_S256x512_S256 (.inl rfl) rfl) shapeCasts_S256_S256x1)
    (shapeCast S256x1 (multiReduction .maximumf [1] S256 t 0xFF800000#32 reduces_S256x256_S256 (.inl rfl) rfl) shapeCasts_S256_S256x1)

/-- The window's exponentials. -/
def pB (s : FVec F S256x512 .f32) (t : FVec F S256x256 .f32) : FVec F S256x512 .f32 :=
  exp2 (subf s (broadcastTo S256x512 (mx s t) broadcasts_S256x1_S256x512))

/-- The context's exponentials. -/
def pC (s : FVec F S256x512 .f32) (t : FVec F S256x256 .f32) : FVec F S256x256 .f32 :=
  exp2 (subf t (broadcastTo S256x256 (mx s t) broadcasts_S256x1_S256x256))

/-- Their sum. -/
def den (s : FVec F S256x512 .f32) (t : FVec F S256x256 .f32) : FVec F S256x1 .f32 :=
  addf (shapeCast S256x1 (multiReduction .add [1] S256 (pB s t) 0x00000000#32 reduces_S256x512_S256 (.inl rfl) rfl) shapeCasts_S256_S256x1)
    (shapeCast S256x1 (multiReduction .add [1] S256 (pC s t) 0x00000000#32 reduces_S256x256_S256 (.inl rfl) rfl) shapeCasts_S256_S256x1)

/-- Four rows' context exponentials times the context's values. -/
def oC (P0 P1 P2 P3 : FVec F S256x256 .f32) (vc : FVec F S256x256 .bf16) : FVec F S1024x256 .f32 :=
  matmul dot_S1024x256_S256x256_S1024x256_1_0_0_1_n_n none (concatenate S1024x256 0 [⟨S256x256, truncf .bf16 P0 bitsLt_bf16_f32⟩, ⟨S256x256, truncf .bf16 P1 bitsLt_bf16_f32⟩, ⟨S256x256, truncf .bf16 P2 bitsLt_bf16_f32⟩, ⟨S256x256, truncf .bf16 P3 bitsLt_bf16_f32⟩] concatenates_S256x256_S256x256_S256x256_S256x256_S1024x256_d0) vc (constant S1024x256 .f32 0x00000000#32)

/-- The stacked heads' outputs. -/
def oAll (s : FVec F S256x512 .f32) (t : FVec F S256x256 .f32) (o : FVec F S256x256 .f32) (v : Vec F S1x512x256 .bf16) : FVec F S256x256 .f32 :=
  divf (addf (matmul dot_S256x512_S512x256_S256x256_1_0_0_1_n_n none (truncf .bf16 (pB s t) bitsLt_bf16_f32) (shapeCast S512x256 v shapeCasts_S1x512x256_S512x256) (constant S256x256 .f32 0x00000000#32)) o)
    (broadcastTo S256x256 (den s t) broadcasts_S256x1_S256x256)

/-- Every head's own lanes of the stacked outputs. -/
def unstack (M0 M1 M2 : IVec S1x256 1) (o : FVec F S256x256 .f32) : FVec F S64x256 .f32 :=
  select (lanes M0) (extractStridedSlice S64x256 ![0, 0] o slices_S256x256_o0_0_S64x256)
    (select (lanes M1) (extractStridedSlice S64x256 ![64, 0] o slices_S256x256_o64_0_S64x256)
      (select (lanes M2) (extractStridedSlice S64x256 ![128, 0] o slices_S256x256_o128_0_S64x256)
        (extractStridedSlice S64x256 ![192, 0] o slices_S256x256_o192_0_S64x256)))

/-- The gate's input. -/
def zrow (z : Vec F S1x64x256 .bf16) : FVec F S64x256 .f32 :=
  extf .f32 (shapeCast S64x256 z shapeCasts_S1x64x256_S64x256) bitsLt_bf16_f32

/-- A row's gated output. -/
def fin (M0 M1 M2 : IVec S1x256 1) (o : FVec F S256x256 .f32) (z : Vec F S1x64x256 .bf16) : FVec F S1x64x256 .bf16 :=
  shapeCast S1x64x256 (truncf .bf16 (mulf (unstack M0 M1 M2 o) (mulf (zrow z) (logistic (zrow z)))) bitsLt_bf16_f32) shapeCasts_S64x256_S1x64x256

/-- Rows 0 … 3 of a stack of four. -/
def part0 (x : FVec F S1024x256 .f32) : FVec F S256x256 .f32 := extractStridedSlice S256x256 ![0, 0] x slices_S1024x256_o0_0_S256x256
@[inherit_doc part0] def part1 (x : FVec F S1024x256 .f32) : FVec F S256x256 .f32 := extractStridedSlice S256x256 ![256, 0] x slices_S1024x256_o256_0_S256x256
@[inherit_doc part0] def part2 (x : FVec F S1024x256 .f32) : FVec F S256x256 .f32 := extractStridedSlice S256x256 ![512, 0] x slices_S1024x256_o512_0_S256x256
@[inherit_doc part0] def part3 (x : FVec F S1024x256 .f32) : FVec F S256x256 .f32 := extractStridedSlice S256x256 ![768, 0] x slices_S1024x256_o768_0_S256x256

/-- What a group of four rows reads. -/
structure Grp (F : FTy → Type) where
  M0 : IVec S1x256 1
  M1 : IVec S1x256 1
  M2 : IVec S1x256 1
  M3 : IVec S1x256 1
  q : Fin 4 → Vec F S1x64x256 .bf16
  k : Fin 4 → Vec F S1x512x256 .bf16
  v : Fin 4 → Vec F S1x512x256 .bf16
  b : Fin 4 → Vec F S1x4x1x64x512 .f32
  z : Fin 4 → Vec F S1x64x256 .bf16
  kc : Vec F S1x256x256 .bf16
  vc : Vec F S1x256x256 .bf16

/-- A context's block as a matrix. -/
def mat (x : Vec F S1x256x256 .bf16) : FVec F S256x256 .bf16 := shapeCast S256x256 x shapeCasts_S1x256x256_S256x256

/-- Its window's scores. -/
def Grp.s (G : Grp F) (r : Fin 4) : FVec F S256x512 .f32 := sB (qst G.M0 G.M1 G.M2 G.M3 (G.q r)) (G.k r) (G.b r)

/-- Its four rows' context scores. -/
def Grp.t4 (G : Grp F) : FVec F S1024x256 .f32 :=
  sC (qst G.M0 G.M1 G.M2 G.M3 (G.q 0)) (qst G.M0 G.M1 G.M2 G.M3 (G.q 1)) (qst G.M0 G.M1 G.M2 G.M3 (G.q 2)) (qst G.M0 G.M1 G.M2 G.M3 (G.q 3)) (mat G.kc)

/-- Its four rows' context outputs. -/
def Grp.o4 (G : Grp F) : FVec F S1024x256 .f32 :=
  oC (pC (G.s 0) (part0 G.t4)) (pC (G.s 1) (part1 G.t4)) (pC (G.s 2) (part2 G.t4)) (pC (G.s 3) (part3 G.t4)) (mat G.vc)

/-- Row 0's output. -/
def Grp.out0 (G : Grp F) : FVec F S1x64x256 .bf16 := fin G.M0 G.M1 G.M2 (oAll (G.s 0) (part0 G.t4) (part0 G.o4) (G.v 0)) (G.z 0)

/-- Row 1's output. -/
def Grp.out1 (G : Grp F) : FVec F S1x64x256 .bf16 := fin G.M0 G.M1 G.M2 (oAll (G.s 1) (part1 G.t4) (part1 G.o4) (G.v 1)) (G.z 1)

/-- Row 2's output. -/
def Grp.out2 (G : Grp F) : FVec F S1x64x256 .bf16 := fin G.M0 G.M1 G.M2 (oAll (G.s 2) (part2 G.t4) (part2 G.o4) (G.v 2)) (G.z 2)

/-- Row 3's output. -/
def Grp.out3 (G : Grp F) : FVec F S1x64x256 .bf16 := fin G.M0 G.M1 G.M2 (oAll (G.s 3) (part3 G.t4) (part3 G.o4) (G.v 3)) (G.z 3)

set_option maxHeartbeats 4000000 in
/-- What one trip of the loop loads for its group `g` of four rows. -/
def loads (arg2 : Memref sig .tc .vmem S1x4096x256 .bf16) (arg3 : Memref sig .tc .vmem S1x4096x256 .bf16) (arg4 : Memref sig .tc .vmem S1x4096x256 .bf16) (arg5 : Memref sig .tc .vmem S1x4096x256 .bf16) (arg8 : Memref sig .tc .vmem S1x4x8x64x512 .f32) (M0 M1 M2 M3 : IVec S1x256 1) (kc vc : Vec F S1x256x256 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg8 : BufTy.Contents (Elt F) arg8.view.ty) (k : Fin k0_t1_loop.trips) (g : Fin 2) : Grp F where
  M0 := M0
  M1 := M1
  M2 := M2
  M3 := M3
  q r := View.readAt (Elt F) arg2.view (Rect.unit (s := S1x4096x256) (k0_off1 k (BitVec.ofNat 32 (4 * g.val)) (BitVec.ofNat 32 r.val)) S1x64x256.size (k0_off1_inb k g r)).toLoadRect X_arg2
  k r := View.readAt (Elt F) arg3.view (Rect.unit (s := S1x4096x256) (k0_off2 k (BitVec.ofNat 32 (4 * g.val)) (BitVec.ofNat 32 r.val)) S1x512x256.size (k0_off2_inb k g r)).toLoadRect X_arg3
  v r := View.readAt (Elt F) arg4.view (Rect.unit (s := S1x4096x256) (k0_off2 k (BitVec.ofNat 32 (4 * g.val)) (BitVec.ofNat 32 r.val)) S1x512x256.size (k0_off2_inb k g r)).toLoadRect X_arg4
  b r := View.readAt (Elt F) arg8.view (Rect.unit (s := S1x4x8x64x512) (k0_off3 k (BitVec.ofNat 32 (4 * g.val)) (BitVec.ofNat 32 r.val)) S1x4x1x64x512.size (k0_off3_inb k g r)).toLoadRect X_arg8
  z r := View.readAt (Elt F) arg5.view (Rect.unit (s := S1x4096x256) (k0_off1 k (BitVec.ofNat 32 (4 * g.val)) (BitVec.ofNat 32 r.val)) S1x64x256.size (k0_off1_inb k g r)).toLoadRect X_arg5
  kc := kc
  vc := vc

set_option maxHeartbeats 4000000 in
/-- The stores of one trip, last first. -/
theorem tripL_eq  (𝒱 : Variants) (c : Dev nD) (bd : Option 𝒱.V) (i : grid0.Coords) (arg2 : Memref sig .tc .vmem S1x4096x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x256 .bf16) (harg6 : arg6.IsWhole) (arg7 : Memref sig .tc .vmem S1x256x256 .bf16) (harg7 : arg7.IsWhole) (arg8 : Memref sig .tc .vmem S1x4x8x64x512 .f32) (harg8 : arg8.IsWhole) (arg9 : Memref sig .tc .vmem S1x4096x256 .bf16) (harg9 : arg9.IsWhole) (v0 : IVec S1x256 32) (v26 : IVec S1x256 1) (v52 : IVec S1x256 1) (v78 : IVec S1x256 1) (c64_i32_20 : BitVec 32) (v80 : IVec S1x256 32) (v87 : IVec S1x256 32) (v89 : BitVec 32) (v105 : Vec F S1x256x256 .bf16) (v107 : Vec F S1x256x256 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg8 : BufTy.Contents (Elt F) arg8.view.ty) (k : Fin k0_t1_loop.trips)  :
    tripL_k0_t1 (F := F) 𝒱 c bd i arg2 harg2 arg3 harg3 arg4 harg4 arg5 harg5 arg6 harg6 arg7 harg7 arg8 harg8 arg9 harg9 v0 v26 v52 v78 c64_i32_20 v80 v87 v89 v105 v107 X_arg2 X_arg3 X_arg4 X_arg5 X_arg8 k = [
      ⟨Rect.unit (s := S1x4096x256) (k0_off1 k 4#32 3#32) S1x64x256.size (k0_off1_inb k 1 3), (loads arg2 arg3 arg4 arg5 arg8 v26 v52 v78 (k0_pay1 v0 c64_i32_20 v80 v87 v89) v105 v107 X_arg2 X_arg3 X_arg4 X_arg5 X_arg8 k 1).out3⟩,
      ⟨Rect.unit (s := S1x4096x256) (k0_off1 k 4#32 2#32) S1x64x256.size (k0_off1_inb k 1 2), (loads arg2 arg3 arg4 arg5 arg8 v26 v52 v78 (k0_pay1 v0 c64_i32_20 v80 v87 v89) v105 v107 X_arg2 X_arg3 X_arg4 X_arg5 X_arg8 k 1).out2⟩,
      ⟨Rect.unit (s := S1x4096x256) (k0_off1 k 4#32 1#32) S1x64x256.size (k0_off1_inb k 1 1), (loads arg2 arg3 arg4 arg5 arg8 v26 v52 v78 (k0_pay1 v0 c64_i32_20 v80 v87 v89) v105 v107 X_arg2 X_arg3 X_arg4 X_arg5 X_arg8 k 1).out1⟩,
      ⟨Rect.unit (s := S1x4096x256) (k0_off1 k 4#32 0#32) S1x64x256.size (k0_off1_inb k 1 0), (loads arg2 arg3 arg4 arg5 arg8 v26 v52 v78 (k0_pay1 v0 c64_i32_20 v80 v87 v89) v105 v107 X_arg2 X_arg3 X_arg4 X_arg5 X_arg8 k 1).out0⟩,
      ⟨Rect.unit (s := S1x4096x256) (k0_off1 k 0#32 3#32) S1x64x256.size (k0_off1_inb k 0 3), (loads arg2 arg3 arg4 arg5 arg8 v26 v52 v78 (k0_pay1 v0 c64_i32_20 v80 v87 v89) v105 v107 X_arg2 X_arg3 X_arg4 X_arg5 X_arg8 k 0).out3⟩,
      ⟨Rect.unit (s := S1x4096x256) (k0_off1 k 0#32 2#32) S1x64x256.size (k0_off1_inb k 0 2), (loads arg2 arg3 arg4 arg5 arg8 v26 v52 v78 (k0_pay1 v0 c64_i32_20 v80 v87 v89) v105 v107 X_arg2 X_arg3 X_arg4 X_arg5 X_arg8 k 0).out2⟩,
      ⟨Rect.unit (s := S1x4096x256) (k0_off1 k 0#32 1#32) S1x64x256.size (k0_off1_inb k 0 1), (loads arg2 arg3 arg4 arg5 arg8 v26 v52 v78 (k0_pay1 v0 c64_i32_20 v80 v87 v89) v105 v107 X_arg2 X_arg3 X_arg4 X_arg5 X_arg8 k 0).out1⟩,
      ⟨Rect.unit (s := S1x4096x256) (k0_off1 k 0#32 0#32) S1x64x256.size (k0_off1_inb k 0 0), (loads arg2 arg3 arg4 arg5 arg8 v26 v52 v78 (k0_pay1 v0 c64_i32_20 v80 v87 v89) v105 v107 X_arg2 X_arg3 X_arg4 X_arg5 X_arg8 k 0).out0⟩] := by
  delta tripL_k0_t1 trip_k0_t1
  rfl

end Cert.KernelIdeal.Attn

end
-- ==== Proof.KRead.lean ====
/- The kernel row's stages, entry by entry, and the gated output of a row as one softmax over a window and a context. -/
module

public import proofs.«01_k».proof.Proof.KRow
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem

/-- One eighth, as the kernel spells it. -/
def e8 : EReal := Ideal.ofBits .bf16 0x3E00#16

/-- The named constant. -/
def lk : EReal := Named.named (F := Ideal) (φ := .f32) κ "log2e" 0x3FB8AA3B#32

/-- A query's lane, zero outside head `h`. -/
def qz (h : ℕ) (q : Fin 256 → EReal) (x : Fin 256) : EReal := if x.val / 64 = h then q x * e8 else 0

/-- A score of the window. -/
def scB (h : ℕ) (q : Fin 256 → EReal) (k : Fin 512 → Fin 256 → EReal) (b : Fin 512 → EReal) (n : Fin 512) : EReal :=
  ∑ x, qz h q x * k n x + b n * lk

/-- A score of the context. -/
def scC (h : ℕ) (q : Fin 256 → EReal) (k : Fin 256 → Fin 256 → EReal) (n : Fin 256) : EReal :=
  ∑ x, qz h q x * k n x

/-- The greatest of both. -/
def top (S : Fin 512 → EReal) (T : Fin 256 → EReal) : EReal := max (Finset.univ.sup S) (Finset.univ.sup T)

/-- The softmax-weighted sum of both groups' values. -/
def mean (S : Fin 512 → EReal) (T : Fin 256 → EReal) (v : Fin 512 → EReal) (w : Fin 256 → EReal) : EReal :=
  Ideal.div (∑ n, Ideal.exp2 (S n - top S T) * v n + ∑ n, Ideal.exp2 (T n - top S T) * w n)
    (∑ n, Ideal.exp2 (S n - top S T) + ∑ n, Ideal.exp2 (T n - top S T))

theorem qhd_apply (M : IVec S1x256 1) (q : Vec Ideal S1x64x256 .bf16) (j : Fin 64) (l : Fin 256) :
    qhd M q (ix2 j l) = Scalar.select (M (ix2 0 l)) (q (ix3 0 j l) * e8) 0 := by
  pointwise [qhd, lanes, qsc]
  rfl

/-- The lane mask of head `h`. -/
def IsHead (M : IVec S1x256 1) (h : ℕ) : Prop :=
  ∀ l : Fin 256, M (ix2 0 l) = if l.val / 64 = h then 1#1 else 0#1

theorem qhd_head (M : IVec S1x256 1) (h : ℕ) (hM : IsHead M h) (q : Vec Ideal S1x64x256 .bf16) (j : Fin 64) (l : Fin 256) :
    qhd M q (ix2 j l) = qz h (fun x => q (ix3 0 j x)) l := by
  rw [qhd_apply, hM l, qz]
  split <;> rfl

theorem qst_apply (M0 M1 M2 M3 : IVec S1x256 1) (h0 : IsHead M0 0) (h1 : IsHead M1 1) (h2 : IsHead M2 2) (h3 : IsHead M3 3)
    (q : Vec Ideal S1x64x256 .bf16) (R : Fin 256) (l : Fin 256) :
    qst M0 M1 M2 M3 q (ix2 R l) = qz (R.val / 64) (fun x => q (ix3 0 ⟨R.val % 64, by omega⟩ x)) l := by
  pointwise [qst]
  split
  · rw [qhd_head M0 0 h0]
    congr 1
    · omega
    · funext x; congr 2; exact Fin.ext (by show R.val = R.val % 64; omega)
  · split
    · rw [qhd_head M1 1 h1]
      congr 1
      · omega
      · funext x; congr 2; exact Fin.ext (by show R.val - 64 = R.val % 64; omega)
    · split
      · rw [qhd_head M2 2 h2]
        congr 1
        · omega
        · funext x; congr 2; exact Fin.ext (by show R.val - 64 - 64 = R.val % 64; omega)
      · rw [qhd_head M3 3 h3]
        congr 1
        · omega
        · funext x; congr 2; exact Fin.ext (by show R.val - 64 - 64 - 64 = R.val % 64; omega)

theorem sB_apply (Q : FVec Ideal S256x256 .bf16) (k : Vec Ideal S1x512x256 .bf16) (b : Vec Ideal S1x4x1x64x512 .f32) (R : Fin 256) (n : Fin 512) :
    sB Q k b (ix2 R n) = ∑ x, Q (ix2 R x) * k (ix3 0 n x)
      + b (ix5 0 ⟨R.val / 64, by omega⟩ 0 ⟨R.val % 64, by omega⟩ n) * lk := by
  pointwise [sB]
  rfl

theorem part0_sC (Q0 Q1 Q2 Q3 : FVec Ideal S256x256 .bf16) (kc : FVec Ideal S256x256 .bf16) (R n : Fin 256) :
    part0 (sC Q0 Q1 Q2 Q3 kc) (ix2 R n) = ∑ x, Q0 (ix2 R x) * kc (ix2 n x) := by
  pointwise [part0, sC]

theorem part0_oC (Q0 Q1 Q2 Q3 : FVec Ideal S256x256 .f32) (kc : FVec Ideal S256x256 .bf16) (R n : Fin 256) :
    part0 (oC Q0 Q1 Q2 Q3 kc) (ix2 R n) = ∑ x, Q0 (ix2 R x) * kc (ix2 x n) := by
  pointwise [part0, oC]

theorem part1_sC (Q0 Q1 Q2 Q3 : FVec Ideal S256x256 .bf16) (kc : FVec Ideal S256x256 .bf16) (R n : Fin 256) :
    part1 (sC Q0 Q1 Q2 Q3 kc) (ix2 R n) = ∑ x, Q1 (ix2 R x) * kc (ix2 n x) := by
  pointwise [part1, sC]

theorem part1_oC (Q0 Q1 Q2 Q3 : FVec Ideal S256x256 .f32) (kc : FVec Ideal S256x256 .bf16) (R n : Fin 256) :
    part1 (oC Q0 Q1 Q2 Q3 kc) (ix2 R n) = ∑ x, Q1 (ix2 R x) * kc (ix2 x n) := by
  pointwise [part1, oC]

theorem part2_sC (Q0 Q1 Q2 Q3 : FVec Ideal S256x256 .bf16) (kc : FVec Ideal S256x256 .bf16) (R n : Fin 256) :
    part2 (sC Q0 Q1 Q2 Q3 kc) (ix2 R n) = ∑ x, Q2 (ix2 R x) * kc (ix2 n x) := by
  pointwise [part2, sC]
  refine Finset.sum_congr rfl fun x _ => ?_
  rw [dif_neg (by omega), dif_neg (by omega), dif_pos (by omega)]
  refine congrArg (· * _) (congrArg _ (congrArg (ix2 · x) (Fin.ext ?_)))
  show 512 + R.val - 256 - 256 = R.val
  omega

theorem part2_oC (Q0 Q1 Q2 Q3 : FVec Ideal S256x256 .f32) (kc : FVec Ideal S256x256 .bf16) (R n : Fin 256) :
    part2 (oC Q0 Q1 Q2 Q3 kc) (ix2 R n) = ∑ x, Q2 (ix2 R x) * kc (ix2 x n) := by
  pointwise [part2, oC]
  refine Finset.sum_congr rfl fun x _ => ?_
  rw [dif_neg (by omega), dif_neg (by omega), dif_pos (by omega)]
  refine congrArg (· * _) (congrArg _ (congrArg (ix2 · x) (Fin.ext ?_)))
  show 512 + R.val - 256 - 256 = R.val
  omega

theorem part3_sC (Q0 Q1 Q2 Q3 : FVec Ideal S256x256 .bf16) (kc : FVec Ideal S256x256 .bf16) (R n : Fin 256) :
    part3 (sC Q0 Q1 Q2 Q3 kc) (ix2 R n) = ∑ x, Q3 (ix2 R x) * kc (ix2 n x) := by
  pointwise [part3, sC]
  refine Finset.sum_congr rfl fun x _ => ?_
  rw [dif_neg (by omega), dif_neg (by omega), dif_neg (by omega)]
  refine congrArg (· * _) (congrArg _ (congrArg (ix2 · x) (Fin.ext ?_)))
  show 768 + R.val - 256 - 256 - 256 = R.val
  omega

theorem part3_oC (Q0 Q1 Q2 Q3 : FVec Ideal S256x256 .f32) (kc : FVec Ideal S256x256 .bf16) (R n : Fin 256) :
    part3 (oC Q0 Q1 Q2 Q3 kc) (ix2 R n) = ∑ x, Q3 (ix2 R x) * kc (ix2 x n) := by
  pointwise [part3, oC]
  refine Finset.sum_congr rfl fun x _ => ?_
  rw [dif_neg (by omega), dif_neg (by omega), dif_neg (by omega)]
  refine congrArg (· * _) (congrArg _ (congrArg (ix2 · x) (Fin.ext ?_)))
  show 768 + R.val - 256 - 256 - 256 = R.val
  omega

theorem kerMax {n0 n1 : Nat} (s : FVec Ideal ⟨2, ![n0, n1]⟩ .f32) (r : (⟨2, ![n0, n1]⟩ : Shape).Reduces [1] ⟨1, ![n0]⟩) (R : Fin n0) :
    multiReduction .maximumf [1] ⟨1, ![n0]⟩ s 0xFF800000#32 r (.inl rfl) rfl (ix1 R)
      = Finset.univ.sup fun n : Fin n1 => s (ix2 R n) := by
  pointwise
  have z : Ideal.ofBits .f32 0xFF800000#32 = ⊥ := by simp [Ideal.ofBits, Ideal.ieee]
  exact congrArg (fun b => Finset.univ.fold max b fun k : Fin n1 => s (ix2 R k)) z

theorem col_apply (v : FVec Ideal S256 .f32) (R : Fin 256) : shapeCast S256x1 v shapeCasts_S256_S256x1 (ix2 R 0) = v (ix1 R) := by
  pointwise

theorem mx_apply (s : FVec Ideal S256x512 .f32) (t : FVec Ideal S256x256 .f32) (R : Fin 256) :
    mx s t (ix2 R 0) = top (fun n => s (ix2 R n)) (fun n => t (ix2 R n)) := by
  delta mx
  exact congrArg₂ max ((col_apply _ R).trans (kerMax s _ R)) ((col_apply _ R).trans (kerMax t _ R))

theorem pB_apply (s : FVec Ideal S256x512 .f32) (t : FVec Ideal S256x256 .f32) (R : Fin 256) (n : Fin 512) :
    pB s t (ix2 R n) = Ideal.exp2 (s (ix2 R n) - top (fun n => s (ix2 R n)) (fun n => t (ix2 R n))) := by
  rw [← mx_apply]
  pointwise [pB]
  rfl

theorem pC_apply (s : FVec Ideal S256x512 .f32) (t : FVec Ideal S256x256 .f32) (R : Fin 256) (n : Fin 256) :
    pC s t (ix2 R n) = Ideal.exp2 (t (ix2 R n) - top (fun n => s (ix2 R n)) (fun n => t (ix2 R n))) := by
  rw [← mx_apply]
  pointwise [pC]
  rfl

theorem den_apply (s : FVec Ideal S256x512 .f32) (t : FVec Ideal S256x256 .f32) (R : Fin 256) :
    den s t (ix2 R 0) = ∑ n, pB s t (ix2 R n) + ∑ n, pC s t (ix2 R n) := by
  pointwise [den]

theorem oAll_apply (s : FVec Ideal S256x512 .f32) (t : FVec Ideal S256x256 .f32) (o : FVec Ideal S256x256 .f32) (v : Vec Ideal S1x512x256 .bf16) (R l : Fin 256) :
    oAll s t o v (ix2 R l)
      = Ideal.div (∑ n, pB s t (ix2 R n) * v (ix3 0 n l) + o (ix2 R l)) (den s t (ix2 R 0)) := by
  pointwise [oAll]

theorem fin_apply (M0 M1 M2 : IVec S1x256 1) (h0 : IsHead M0 0) (h1 : IsHead M1 1) (h2 : IsHead M2 2) (o : FVec Ideal S256x256 .f32) (z : Vec Ideal S1x64x256 .bf16) (j : Fin 64) (l : Fin 256) :
    fin M0 M1 M2 o z (ix3 0 j l) = o (ix2 ⟨l.val / 64 * 64 + j.val, by omega⟩ l)
      * (z (ix3 0 j l) * Ideal.logistic (z (ix3 0 j l))) := by
  pointwise [fin, unstack, lanes, zrow]
  rw [h0 l, h1 l, h2 l]
  congr 1
  have hl := l.isLt
  by_cases e0 : l.val / 64 = 0
  · rw [if_pos e0]
    show o _ = o _
    exact congrArg o (congrArg (ix2 · l) (Fin.ext (by show j.val = l.val / 64 * 64 + j.val; omega)))
  · rw [if_neg e0]
    by_cases e1 : l.val / 64 = 1
    · rw [if_pos e1]
      show o _ = o _
      exact congrArg o (congrArg (ix2 · l) (Fin.ext (by show 64 + j.val = l.val / 64 * 64 + j.val; omega)))
    · rw [if_neg e1]
      by_cases e2 : l.val / 64 = 2
      · rw [if_pos e2]
        show o _ = o _
        exact congrArg o (congrArg (ix2 · l) (Fin.ext (by show 128 + j.val = l.val / 64 * 64 + j.val; omega)))
      · rw [if_neg e2]
        show o _ = o _
        exact congrArg o (congrArg (ix2 · l) (Fin.ext (by show 192 + j.val = l.val / 64 * 64 + j.val; omega)))

/-- The output of a row of a group at a lane, from what the group reads. -/
def Grp.val (G : Grp Ideal) (r : Fin 4) (j : Fin 64) (l : Fin 256) : EReal :=
  mean (scB (l.val / 64) (fun x => G.q r (ix3 0 j x)) (fun n x => G.k r (ix3 0 n x))
      (fun n => G.b r (ix5 0 ⟨l.val / 64, by omega⟩ 0 j n)))
    (scC (l.val / 64) (fun x => G.q r (ix3 0 j x)) (fun n x => G.kc (ix3 0 n x)))
    (fun n => G.v r (ix3 0 n l)) (fun n => G.vc (ix3 0 n l))
  * (G.z r (ix3 0 j l) * Ideal.logistic (G.z r (ix3 0 j l)))

theorem cast_apply (x : Vec Ideal S1x256x256 .bf16) (n m : Fin 256) :
    mat x (ix2 n m) = x (ix3 0 n m) := by
  pointwise [mat]

section
variable (G : Grp Ideal) (h0 : IsHead G.M0 0) (h1 : IsHead G.M1 1) (h2 : IsHead G.M2 2) (h3 : IsHead G.M3 3)
include h0 h1 h2 h3

theorem s_apply (r : Fin 4) (j : Fin 64) (h : Fin 4) (R : Fin 256) (hR : R.val = h.val * 64 + j.val) (n : Fin 512) :
    G.s r (ix2 R n) = scB h.val (fun x => G.q r (ix3 0 j x)) (fun n x => G.k r (ix3 0 n x))
      (fun n => G.b r (ix5 0 h 0 j n)) n := by
  have e1 : R.val / 64 = h.val := by omega
  have e2 : R.val % 64 = j.val := by omega
  have f1 : (⟨R.val / 64, by omega⟩ : Fin 4) = h := Fin.ext e1
  have f2 : (⟨R.val % 64, by omega⟩ : Fin 64) = j := Fin.ext e2
  rw [Grp.s, sB_apply, f1, f2]
  simp only [qst_apply _ _ _ _ h0 h1 h2 h3, e1, f2, scB]

theorem t_apply0 (j : Fin 64) (h : Fin 4) (R : Fin 256) (hR : R.val = h.val * 64 + j.val) (n : Fin 256) :
    part0 G.t4 (ix2 R n) = scC h.val (fun x => G.q 0 (ix3 0 j x)) (fun n x => G.kc (ix3 0 n x)) n := by
  have e1 : R.val / 64 = h.val := by omega
  have f2 : (⟨R.val % 64, by omega⟩ : Fin 64) = j := Fin.ext (by show R.val % 64 = j.val; omega)
  rw [Grp.t4, part0_sC]
  simp only [qst_apply _ _ _ _ h0 h1 h2 h3, e1, f2, scC, cast_apply]

theorem out0_apply (j : Fin 64) (l : Fin 256) : G.out0 (ix3 0 j l) = G.val 0 j l := by
  have hs := s_apply G h0 h1 h2 h3 0 j ⟨l.val / 64, by omega⟩ ⟨l.val / 64 * 64 + j.val, by omega⟩ rfl
  have ht := t_apply0 G h0 h1 h2 h3 j ⟨l.val / 64, by omega⟩ ⟨l.val / 64 * 64 + j.val, by omega⟩ rfl
  rw [Grp.out0, fin_apply _ _ _ h0 h1 h2, oAll_apply, den_apply, Grp.o4, part0_oC]
  simp only [pB_apply, pC_apply, hs, ht, cast_apply]
  rfl

theorem t_apply1 (j : Fin 64) (h : Fin 4) (R : Fin 256) (hR : R.val = h.val * 64 + j.val) (n : Fin 256) :
    part1 G.t4 (ix2 R n) = scC h.val (fun x => G.q 1 (ix3 0 j x)) (fun n x => G.kc (ix3 0 n x)) n := by
  have e1 : R.val / 64 = h.val := by omega
  have f2 : (⟨R.val % 64, by omega⟩ : Fin 64) = j := Fin.ext (by show R.val % 64 = j.val; omega)
  rw [Grp.t4, part1_sC]
  simp only [qst_apply _ _ _ _ h0 h1 h2 h3, e1, f2, scC, cast_apply]

theorem out1_apply (j : Fin 64) (l : Fin 256) : G.out1 (ix3 0 j l) = G.val 1 j l := by
  have hs := s_apply G h0 h1 h2 h3 1 j ⟨l.val / 64, by omega⟩ ⟨l.val / 64 * 64 + j.val, by omega⟩ rfl
  have ht := t_apply1 G h0 h1 h2 h3 j ⟨l.val / 64, by omega⟩ ⟨l.val / 64 * 64 + j.val, by omega⟩ rfl
  rw [Grp.out1, fin_apply _ _ _ h0 h1 h2, oAll_apply, den_apply, Grp.o4, part1_oC]
  simp only [pB_apply, pC_apply, hs, ht, cast_apply]
  rfl

theorem t_apply2 (j : Fin 64) (h : Fin 4) (R : Fin 256) (hR : R.val = h.val * 64 + j.val) (n : Fin 256) :
    part2 G.t4 (ix2 R n) = scC h.val (fun x => G.q 2 (ix3 0 j x)) (fun n x => G.kc (ix3 0 n x)) n := by
  have e1 : R.val / 64 = h.val := by omega
  have f2 : (⟨R.val % 64, by omega⟩ : Fin 64) = j := Fin.ext (by show R.val % 64 = j.val; omega)
  rw [Grp.t4, part2_sC]
  simp only [qst_apply _ _ _ _ h0 h1 h2 h3, e1, f2, scC, cast_apply]

theorem out2_apply (j : Fin 64) (l : Fin 256) : G.out2 (ix3 0 j l) = G.val 2 j l := by
  have hs := s_apply G h0 h1 h2 h3 2 j ⟨l.val / 64, by omega⟩ ⟨l.val / 64 * 64 + j.val, by omega⟩ rfl
  have ht := t_apply2 G h0 h1 h2 h3 j ⟨l.val / 64, by omega⟩ ⟨l.val / 64 * 64 + j.val, by omega⟩ rfl
  rw [Grp.out2, fin_apply _ _ _ h0 h1 h2, oAll_apply, den_apply, Grp.o4, part2_oC]
  simp only [pB_apply, pC_apply, hs, ht, cast_apply]
  rfl

theorem t_apply3 (j : Fin 64) (h : Fin 4) (R : Fin 256) (hR : R.val = h.val * 64 + j.val) (n : Fin 256) :
    part3 G.t4 (ix2 R n) = scC h.val (fun x => G.q 3 (ix3 0 j x)) (fun n x => G.kc (ix3 0 n x)) n := by
  have e1 : R.val / 64 = h.val := by omega
  have f2 : (⟨R.val % 64, by omega⟩ : Fin 64) = j := Fin.ext (by show R.val % 64 = j.val; omega)
  rw [Grp.t4, part3_sC]
  simp only [qst_apply _ _ _ _ h0 h1 h2 h3, e1, f2, scC, cast_apply]

theorem out3_apply (j : Fin 64) (l : Fin 256) : G.out3 (ix3 0 j l) = G.val 3 j l := by
  have hs := s_apply G h0 h1 h2 h3 3 j ⟨l.val / 64, by omega⟩ ⟨l.val / 64 * 64 + j.val, by omega⟩ rfl
  have ht := t_apply3 G h0 h1 h2 h3 j ⟨l.val / 64, by omega⟩ ⟨l.val / 64 * 64 + j.val, by omega⟩ rfl
  rw [Grp.out3, fin_apply _ _ _ h0 h1 h2, oAll_apply, den_apply, Grp.o4, part3_oC]
  simp only [pB_apply, pC_apply, hs, ht, cast_apply]
  rfl

end

end Cert.KernelIdeal.Attn

end
-- ==== Proof.KOut.lean ====
/- What one grid point of the kernel leaves in its output block: every entry the softmax mean of its window and its
   context, gated. -/
module

public import proofs.«01_k».proof.Proof.KRead
public import Idealize.ShloMosaic.Lib.Pipeline.ValueKit
public import Idealize.ShloMosaic.Lib.WholeRead

@[expose] public section

set_option maxRecDepth 16384

noncomputable section

namespace Cert.KernelIdeal.Attn

open Cert.KernelIdeal Cert.KernelIdeal.Gen Idealize.ShloMosaic Idealize.ShloMosaic.TcCoe Idealize.SL.Sem

/-- A window's first grid row. -/
def rsk (i : ℕ) : ℕ := min 56 (i - 4)

theorem rsk_le (i : ℕ) : rsk i ≤ 56 := by unfold rsk; omega

theorem rsk_lt {i : ℕ} (h : i < 64) : i - rsk i < 8 := by unfold rsk; omega

theorem trip_off2 : ∀ k : Fin k0_t1_loop.trips, ∀ (g : Fin 2) (r : Fin 4), k0_off2 k (BitVec.ofNat 32 (4 * g.val)) (BitVec.ofNat 32 r.val)
    = ![0, 64 * rsk (8 * k.val + 4 * g.val + r.val), 0] := by decide +kernel

theorem trip_off3 : ∀ k : Fin k0_t1_loop.trips, ∀ (g : Fin 2) (r : Fin 4), k0_off3 k (BitVec.ofNat 32 (4 * g.val)) (BitVec.ofNat 32 r.val)
    = ![0, 0, 8 * k.val + 4 * g.val + r.val - rsk (8 * k.val + 4 * g.val + r.val), 0, 0] := by decide +kernel

theorem trips_le : k0_t1_loop.trips = 8 := by decide +kernel

/-- An entry of the output block, from the input blocks. -/
def blk (x0 x1 x2 x3 : Vec Ideal S1x4096x256 .bf16) (x4 x5 : Vec Ideal S1x256x256 .bf16) (x6 : Vec Ideal S1x4x8x64x512 .f32) (p : Fin 4096) (l : Fin 256) : EReal :=
  mean (scB (l.val / 64) (fun x => x0 (ix3 0 p x))
      (fun n x => x1 (ix3 0 ⟨64 * rsk (p.val / 64) + n.val, by have := rsk_le (p.val / 64); omega⟩ x))
      (fun n => x6 (ix5 0 ⟨l.val / 64, by omega⟩ ⟨p.val / 64 - rsk (p.val / 64), rsk_lt (by omega)⟩ ⟨p.val % 64, by omega⟩ n)))
    (scC (l.val / 64) (fun x => x0 (ix3 0 p x)) (fun n x => x4 (ix3 0 n x)))
    (fun n => x2 (ix3 0 ⟨64 * rsk (p.val / 64) + n.val, by have := rsk_le (p.val / 64); omega⟩ l)) (fun n => x5 (ix3 0 n l))
  * (x3 (ix3 0 p l) * Ideal.logistic (x3 (ix3 0 p l)))

theorem ix3_cases {n0 n1 n2 : ℕ} (f : (⟨3, ![n0, n1, n2]⟩ : Shape).Idx) : ∃ (a : Fin n0) (b : Fin n1) (c : Fin n2), f = ix3 a b c :=
  ⟨f 0, f 1, f 2, eq_ix3 f⟩

theorem readU {sp : Space} {s : Shape} {e : EltTy} (m : Memref sig .tc sp s e) (h : m.IsWhole) (X : s.Idx → Elt Ideal e)
    (off size : Fin s.rank → ℕ) (inb : ∀ a, off a + size a ≤ s.size a) (x : (⟨s.rank, size⟩ : Shape).Idx) (i : s.Idx)
    (hi : ∀ a, (i a : ℕ) = off a + x a) :
    View.readAt (Elt Ideal) m.view (Rect.unit off size inb).toLoadRect (h.unread X) x = X i :=
  (h.readAt_unread X (Rect.unit off size inb).toLoadRect x).trans (View.ld_unit_apply_of X off size inb x i hi)

section
variable (c : Dev nD) (i : grid0.Coords) (arg2 : Memref sig .tc .vmem S1x4096x256 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x256x256 .bf16) (harg6 : arg6.IsWhole) (arg7 : Memref sig .tc .vmem S1x256x256 .bf16) (harg7 : arg7.IsWhole) (arg8 : Memref sig .tc .vmem S1x4x8x64x512 .f32) (harg8 : arg8.IsWhole) (arg9 : Memref sig .tc .vmem S1x4096x256 .bf16) (harg9 : arg9.IsWhole)
variable (x0 x1 x2 x3 : Vec Ideal S1x4096x256 .bf16) (x4 x5 : Vec Ideal S1x256x256 .bf16) (x6 : Vec Ideal S1x4x8x64x512 .f32)
variable (M0 M1 M2 M3 : IVec S1x256 1)

theorem val_eq (k : Fin k0_t1_loop.trips) (g : Fin 2) (r : Fin 4) (j : Fin 64) (l : Fin 256) (p : Fin 4096)
    (hp : p.val = 512 * k.val + 256 * g.val + 64 * r.val + j.val) :
    (loads arg2 arg3 arg4 arg5 arg8 M0 M1 M2 M3 x4 x5 (harg2.unread x0) (harg3.unread x1) (harg4.unread x2) (harg5.unread x3) (harg8.unread x6) k g).val r j l
      = blk x0 x1 x2 x3 x4 x5 x6 p l := by
  have hr : r.val < 4 := r.isLt
  have hj : j.val < 64 := j.isLt
  have ei : p.val / 64 = 8 * k.val + 4 * g.val + r.val := by omega
  have ej : p.val % 64 = j.val := by omega
  have fj : (⟨p.val % 64, by omega⟩ : Fin 64) = j := Fin.ext ej
  have o1 := k0_off1_eq k g r
  have o2 := trip_off2 k g r
  have o3 := trip_off3 k g r
  rw [← ei] at o2 o3
  have hq : ∀ x : Fin 256, View.readAt (Elt Ideal) arg2.view (Rect.unit (s := S1x4096x256) (k0_off1 k (BitVec.ofNat 32 (4 * g.val)) (BitVec.ofNat 32 r.val)) S1x64x256.size (k0_off1_inb k g r)).toLoadRect (harg2.unread x0) (ix3 0 j x) = x0 (ix3 0 p x) := by
    intro x
    refine readU arg2 harg2 x0 _ _ _ _ _ fun a => ?_
    rw [o1]
    match a with
    | ⟨0, _⟩ => rfl
    | ⟨1, _⟩ => show p.val = 512 * k.val + 256 * g.val + 64 * r.val + j.val; omega
    | ⟨2, _⟩ => show x.val = 0 + x.val; omega
  have hz : View.readAt (Elt Ideal) arg5.view (Rect.unit (s := S1x4096x256) (k0_off1 k (BitVec.ofNat 32 (4 * g.val)) (BitVec.ofNat 32 r.val)) S1x64x256.size (k0_off1_inb k g r)).toLoadRect (harg5.unread x3) (ix3 0 j l) = x3 (ix3 0 p l) := by
    refine readU arg5 harg5 x3 _ _ _ _ _ fun a => ?_
    rw [o1]
    match a with
    | ⟨0, _⟩ => rfl
    | ⟨1, _⟩ => show p.val = 512 * k.val + 256 * g.val + 64 * r.val + j.val; omega
    | ⟨2, _⟩ => show l.val = 0 + l.val; omega
  have hk : ∀ (n : Fin 512) (x : Fin 256), View.readAt (Elt Ideal) arg3.view (Rect.unit (s := S1x4096x256) (k0_off2 k (BitVec.ofNat 32 (4 * g.val)) (BitVec.ofNat 32 r.val)) S1x512x256.size (k0_off2_inb k g r)).toLoadRect (harg3.unread x1) (ix3 0 n x) = x1 (ix3 0 ⟨64 * rsk (p.val / 64) + n.val, by have := rsk_le (p.val / 64); omega⟩ x) := by
    intro n x
    refine readU arg3 harg3 x1 _ _ _ _ _ fun a => ?_
    rw [o2]
    match a with
    | ⟨0, _⟩ => rfl
    | ⟨1, _⟩ => rfl
    | ⟨2, _⟩ => show x.val = 0 + x.val; omega
  have hv : ∀ (n : Fin 512), View.readAt (Elt Ideal) arg4.view (Rect.unit (s := S1x4096x256) (k0_off2 k (BitVec.ofNat 32 (4 * g.val)) (BitVec.ofNat 32 r.val)) S1x512x256.size (k0_off2_inb k g r)).toLoadRect (harg4.unread x2) (ix3 0 n l) = x2 (ix3 0 ⟨64 * rsk (p.val / 64) + n.val, by have := rsk_le (p.val / 64); omega⟩ l) := by
    intro n
    refine readU arg4 harg4 x2 _ _ _ _ _ fun a => ?_
    rw [o2]
    match a with
    | ⟨0, _⟩ => rfl
    | ⟨1, _⟩ => rfl
    | ⟨2, _⟩ => show l.val = 0 + l.val; omega
  have hb : ∀ (h : Fin 4) (n : Fin 512), View.readAt (Elt Ideal) arg8.view (Rect.unit (s := S1x4x8x64x512) (k0_off3 k (BitVec.ofNat 32 (4 * g.val)) (BitVec.ofNat 32 r.val)) S1x4x1x64x512.size (k0_off3_inb k g r)).toLoadRect (harg8.unread x6) (ix5 0 h 0 j n) = x6 (ix5 0 h ⟨p.val / 64 - rsk (p.val / 64), rsk_lt (by omega)⟩ j n) := by
    intro h n
    refine readU arg8 harg8 x6 _ _ _ _ _ fun a => ?_
    rw [o3]
    match a with
    | ⟨0, _⟩ => rfl
    | ⟨1, _⟩ => show h.val = 0 + h.val; omega
    | ⟨2, _⟩ => rfl
    | ⟨3, _⟩ => show j.val = 0 + j.val; omega
    | ⟨4, _⟩ => show n.val = 0 + n.val; omega
  unfold Grp.val blk
  rw [fj]
  simp only [loads]
  simp only [hq, hz, hk, hv, hb]

/-- Every store of one trip holds the block's entries. -/
theorem trip_at (h0 : IsHead M0 0) (h1 : IsHead M1 1) (h2 : IsHead M2 2) (v0 : IVec S1x256 32) (c64_i32_20 : BitVec 32) (v80 : IVec S1x256 32) (v87 : IVec S1x256 32) (v89 : BitVec 32)
    (h3 : IsHead (k0_pay1 v0 c64_i32_20 v80 v87 v89) 3) (k : Fin k0_t1_loop.trips) (p : Fin 4096) (l : Fin 256) :
    View.AllAt (tripL_k0_t1 (F := Ideal) Variants.none c none i arg2 harg2 arg3 harg3 arg4 harg4 arg5 harg5 arg6 harg6 arg7 harg7 arg8 harg8 arg9 harg9 v0 M0 M1 M2 c64_i32_20 v80 v87 v89 x4 x5 (harg2.unread x0) (harg3.unread x1) (harg4.unread x2) (harg5.unread x3) (harg8.unread x6) k)
      (ix3 0 p l) (blk x0 x1 x2 x3 x4 x5 x6 p l) := by
  rw [tripL_eq]
  refine View.allAt_cons_unit _ _ _ _ _ (fun x hx => ?_) ?_
  · obtain ⟨a, j, l', rfl⟩ := ix3_cases x
    have o1 := k0_off1_eq k 1 3
    have e1 : p.val = 512 * k.val + 256 * 1 + 64 * 3 + j.val := (hx 1).trans (congrArg (fun f : Fin 3 → ℕ => f 1 + j.val) o1)
    have e2 : l.val = l'.val := (hx 2).trans ((congrArg (fun f : Fin 3 → ℕ => f 2 + l'.val) o1).trans (Nat.zero_add _))
    obtain rfl := Fin.ext e2
    obtain rfl := Subsingleton.elim a 0
    exact (out3_apply (loads arg2 arg3 arg4 arg5 arg8 M0 M1 M2 (k0_pay1 v0 c64_i32_20 v80 v87 v89) x4 x5 (harg2.unread x0) (harg3.unread x1) (harg4.unread x2) (harg5.unread x3) (harg8.unread x6) k 1) h0 h1 h2 h3 j l).trans
      (val_eq arg2 harg2 arg3 harg3 arg4 harg4 arg5 harg5 arg8 harg8 x0 x1 x2 x3 x4 x5 x6 M0 M1 M2 _ k 1 3 j l p e1)
  refine View.allAt_cons_unit _ _ _ _ _ (fun x hx => ?_) ?_
  · obtain ⟨a, j, l', rfl⟩ := ix3_cases x
    have o1 := k0_off1_eq k 1 2
    have e1 : p.val = 512 * k.val + 256 * 1 + 64 * 2 + j.val := (hx 1).trans (congrArg (fun f : Fin 3 → ℕ => f 1 + j.val) o1)
    have e2 : l.val = l'.val := (hx 2).trans ((congrArg (fun f : Fin 3 → ℕ => f 2 + l'.val) o1).trans (Nat.zero_add _))
    obtain rfl := Fin.ext e2
    obtain rfl := Subsingleton.elim a 0
    exact (out2_apply (loads arg2 arg3 arg4 arg5 arg8 M0 M1 M2 (k0_pay1 v0 c64_i32_20 v80 v87 v89) x4 x5 (harg2.unread x0) (harg3.unread x1) (harg4.unread x2) (harg5.unread x3) (harg8.unread x6) k 1) h0 h1 h2 h3 j l).trans
      (val_eq arg2 harg2 arg3 harg3 arg4 harg4 arg5 harg5 arg8 harg8 x0 x1 x2 x3 x4 x5 x6 M0 M1 M2 _ k 1 2 j l p e1)
  refine View.allAt_cons_unit _ _ _ _ _ (fun x hx => ?_) ?_
  · obtain ⟨a, j, l', rfl⟩ := ix3_cases x
    have o1 := k0_off1_eq k 1 1
    have e1 : p.val = 512 * k.val + 256 * 1 + 64 * 1 + j.val := (hx 1).trans (congrArg (fun f : Fin 3 → ℕ => f 1 + j.val) o1)
    have e2 : l.val = l'.val := (hx 2).trans ((congrArg (fun f : Fin 3 → ℕ => f 2 + l'.val) o1).trans (Nat.zero_add _))
    obtain rfl := Fin.ext e2
    obtain rfl := Subsingleton.elim a 0
    exact (out1_apply (loads arg2 arg3 arg4 arg5 arg8 M0 M1 M2 (k0_pay1 v0 c64_i32_20 v80 v87 v89) x4 x5 (harg2.unread x0) (harg3.unread x1) (harg4.unread x2) (harg5.unread x3) (harg8.unread x6) k 1) h0 h1 h2 h3 j l).trans
      (val_eq arg2 harg2 arg3 harg3 arg4 harg4 arg5 harg5 arg8 harg8 x0 x1 x2 x3 x4 x5 x6 M0 M1 M2 _ k 1 1 j l p e1)
  refine View.allAt_cons_unit _ _ _ _ _ (fun x hx => ?_) ?_
  · obtain ⟨a, j, l', rfl⟩ := ix3_cases x
    have o1 := k0_off1_eq k 1 0
    have e1 : p.val = 512 * k.val + 256 * 1 + 64 * 0 + j.val := (hx 1).trans (congrArg (fun f : Fin 3 → ℕ => f 1 + j.val) o1)
    have e2 : l.val = l'.val := (hx 2).trans ((congrArg (fun f : Fin 3 → ℕ => f 2 + l'.val) o1).trans (Nat.zero_add _))
    obtain rfl := Fin.ext e2
    obtain rfl := Subsingleton.elim a 0
    exact (out0_apply (loads arg2 arg3 arg4 arg5 arg8 M0 M1 M2 (k0_pay1 v0 c64_i32_20 v80 v87 v89) x4 x5 (harg2.unread x0) (harg3.unread x1) (harg4.unread x2) (harg5.unread x3) (harg8.unread x6) k 1) h0 h1 h2 h3 j l).trans
      (val_eq arg2 harg2 arg3 harg3 arg4 harg4 arg5 harg5 arg8 harg8 x0 x1 x2 x3 x4 x5 x6 M0 M1 M2 _ k 1 0 j l p e1)
  refine View.allAt_cons_unit _ _ _ _ _ (fun x hx => ?_) ?_
  · obtain ⟨a, j, l', rfl⟩ := ix3_cases x
    have o1 := k0_off1_eq k 0 3
    have e1 : p.val = 512 * k.val + 256 * 0 + 64 * 3 + j.val := (hx 1).trans (congrArg (fun f : Fin 3 → ℕ => f 1 + j.val) o1)
    have e2 : l.val = l'.val := (hx 2).trans ((congrArg (fun f : Fin 3 → ℕ => f 2 + l'.val) o1).trans (Nat.zero_add _))
    obtain rfl := Fin.ext e2
    obtain rfl := Subsingleton.elim a 0
    exact (out3_apply (loads arg2 arg3 arg4 arg5 arg8 M0 M1 M2 (k0_pay1 v0 c64_i32_20 v80 v87 v89) x4 x5 (harg2.unread x0) (harg3.unread x1) (harg4.unread x2) (harg5.unread x3) (harg8.unread x6) k 0) h0 h1 h2 h3 j l).trans
      (val_eq arg2 harg2 arg3 harg3 arg4 harg4 arg5 harg5 arg8 harg8 x0 x1 x2 x3 x4 x5 x6 M0 M1 M2 _ k 0 3 j l p e1)
  refine View.allAt_cons_unit _ _ _ _ _ (fun x hx => ?_) ?_
  · obtain ⟨a, j, l', rfl⟩ := ix3_cases x
    have o1 := k0_off1_eq k 0 2
    have e1 : p.val = 512 * k.val + 256 * 0 + 64 * 2 + j.val := (hx 1).trans (congrArg (fun f : Fin 3 → ℕ => f 1 + j.val) o1)
    have e2 : l.val = l'.val := (hx 2).trans ((congrArg (fun f : Fin 3 → ℕ => f 2 + l'.val) o1).trans (Nat.zero_add _))
    obtain rfl := Fin.ext e2
    obtain rfl := Subsingleton.elim a 0
    exact (out2_apply (loads arg2 arg3 arg4 arg5 arg8 M0 M1 M2 (k0_pay1 v0 c64_i32_20 v80 v87 v89) x4 x5 (harg2.unread x0) (harg3.unread x1) (harg4.unread x2) (harg5.unread x3) (harg8.unread x6) k 0) h0 h1 h2 h3 j l).trans
      (val_eq arg2 harg2 arg3 harg3 arg4 harg4 arg5 harg5 arg8 harg8 x0 x1 x2 x3 x4 x5 x6 M0 M1 M2 _ k 0 2 j l p e1)
  refine View.allAt_cons_unit _ _ _ _ _ (fun x hx => ?_) ?_
  · obtain ⟨a, j, l', rfl⟩ := ix3_cases x
    have o1 := k0_off1_eq k 0 1
    have e1 : p.val = 512 * k.val + 256 * 0 + 64 * 1 + j.val := (hx 1).trans (congrArg (fun f : Fin 3 → ℕ => f 1 + j.val) o1)
    have e2 : l.val = l'.val := (hx 2).trans ((congrArg (fun f : Fin 3 → ℕ => f 2 + l'.val) o1).trans (Nat.zero_add _))
    obtain rfl := Fin.ext e2
    obtain rfl := Subsingleton.elim a 0
    exact (out1_apply (loads arg2 arg3 arg4 arg5 arg8 M0 M1 M2 (k0_pay1 v0 c64_i32_20 v80 v87 v89) x4 x5 (harg2.unread x0) (harg3.unread x1) (harg4.unread x2) (harg5.unread x3) (harg8.unread x6) k 0) h0 h1 h2 h3 j l).trans
      (val_eq arg2 harg2 arg3 harg3 arg4 harg4 arg5 harg5 arg8 harg8 x0 x1 x2 x3 x4 x5 x6 M0 M1 M2 _ k 0 1 j l p e1)
  refine View.allAt_cons_unit _ _ _ _ _ (fun x hx => ?_) ?_
  · obtain ⟨a, j, l', rfl⟩ := ix3_cases x
    have o1 := k0_off1_eq k 0 0
    have e1 : p.val = 512 * k.val + 256 * 0 + 64 * 0 + j.val := (hx 1).trans (congrArg (fun f : Fin 3 → ℕ => f 1 + j.val) o1)
    have e2 : l.val = l'.val := (hx 2).trans ((congrArg (fun f : Fin 3 → ℕ => f 2 + l'.val) o1).trans (Nat.zero_add _))
    obtain rfl := Fin.ext e2
    obtain rfl := Subsingleton.elim a 0
    exact (out0_apply (loads arg2 arg3 arg4 arg5 arg8 M0 M1 M2 (k0_pay1 v0 c64_i32_20 v80 v87 v89) x4 x5 (harg2.unread x0) (harg3.unread x1) (harg4.unread x2) (harg5.unread x3) (harg8.unread x6) k 0) h0 h1 h2 h3 j l).trans
      (val_eq arg2 harg2 arg3 harg3 arg4 harg4 arg5 harg5 arg8 harg8 x0 x1 x2 x3 x4 x5 x6 M0 M1 M2 _ k 0 0 j l p e1)
  exact View.allAt_nil _ _

/-- Every store of the loop's first trips holds the block's entries. -/
theorem loop_at (h0 : IsHead M0 0) (h1 : IsHead M1 1) (h2 : IsHead M2 2) (v0 : IVec S1x256 32) (c64_i32_20 : BitVec 32) (v80 : IVec S1x256 32) (v87 : IVec S1x256 32) (v89 : BitVec 32)
    (h3 : IsHead (k0_pay1 v0 c64_i32_20 v80 v87 v89) 3) (p : Fin 4096) (l : Fin 256) (n : ℕ) (hn : n ≤ k0_t1_loop.trips) :
    View.AllAt (pb_k0_t1 (F := Ideal) Variants.none c none i arg2 harg2 arg3 harg3 arg4 harg4 arg5 harg5 arg6 harg6 arg7 harg7 arg8 harg8 arg9 harg9 v0 M0 M1 M2 c64_i32_20 v80 v87 v89 x4 x5 (harg2.unread x0) (harg3.unread x1) (harg4.unread x2) (harg5.unread x3) (harg8.unread x6) n) (ix3 0 p l) (blk x0 x1 x2 x3 x4 x5 x6 p l) := by
  induction n with
  | zero => rw [pb_k0_t1.eq_1]; exact View.allAt_nil _ _
  | succ n ih =>
    rw [pb_k0_t1_succ Variants.none c none i arg2 harg2 arg3 harg3 arg4 harg4 arg5 harg5 arg6 harg6 arg7 harg7 arg8 harg8 arg9 harg9 v0 M0 M1 M2 c64_i32_20 v80 v87 v89 x4 x5 (harg2.unread x0) (harg3.unread x1) (harg4.unread x2) (harg5.unread x3) (harg8.unread x6) ⟨n, hn⟩]
    intro q hq
    rcases List.mem_append.mp hq with h | h
    · exact trip_at c i arg2 harg2 arg3 harg3 arg4 harg4 arg5 harg5 arg6 harg6 arg7 harg7 arg8 harg8 arg9 harg9 x0 x1 x2 x3 x4 x5 x6 M0 M1 M2 h0 h1 h2 v0 c64_i32_20 v80 v87 v89 h3 ⟨n, hn⟩ p l q h
    · exact ih (by omega) q h

theorem head0 : IsHead k0_pay124 0 := by unfold IsHead; decide +kernel
theorem head1 : IsHead (k0_pay128 k0_pay125 k0_pay126 k0_pay127) 1 := by unfold IsHead; decide +kernel
theorem head2 : IsHead (k0_pay129 kernelRun0_A.sl.v0) 2 := by unfold IsHead; decide +kernel
theorem head3 : IsHead (k0_pay1 kernelRun0_A.sl.v0 64#32 (k0_pay130 kernelRun0_A.sl.v0) (k0_pay131 kernelRun0_A.sl.v0) 1#32) 3 := by unfold IsHead; decide +kernel

set_option maxHeartbeats 4000000 in
/-- What the body leaves in its output block. -/
theorem out_apply (p : Fin 4096) (l : Fin 256) :
    out0_A_7 (F := Ideal) c i arg2 harg2 arg3 harg3 arg4 harg4 arg5 harg5 arg6 harg6 arg7 harg7 arg8 harg8 arg9 harg9 x0 x1 x2 x3 x4 x5 x6 (ix3 0 p l)
      = blk x0 x1 x2 x3 x4 x5 x6 p l := by
  have e4 : View.readAt (Elt Ideal) arg6.view (Rect.unit (s := S1x256x256) ![0, 0, 0] ![1, 256, 256] inb_S1x256x256_S1x256x256_0_0_0).toLoadRect (harg6.unread x4) = x4 := by
    funext x
    refine readU arg6 harg6 x4 _ _ _ _ _ fun a => ?_
    match a with
    | ⟨0, _⟩ => exact (Nat.zero_add _).symm
    | ⟨1, _⟩ => exact (Nat.zero_add _).symm
    | ⟨2, _⟩ => exact (Nat.zero_add _).symm
  have e5 : View.readAt (Elt Ideal) arg7.view (Rect.unit (s := S1x256x256) ![0, 0, 0] ![1, 256, 256] inb_S1x256x256_S1x256x256_0_0_0).toLoadRect (harg7.unread x5) = x5 := by
    funext x
    refine readU arg7 harg7 x5 _ _ _ _ _ fun a => ?_
    match a with
    | ⟨0, _⟩ => exact (Nat.zero_add _).symm
    | ⟨1, _⟩ => exact (Nat.zero_add _).symm
    | ⟨2, _⟩ => exact (Nat.zero_add _).symm
  unfold out0_A_7
  rw [View.read_writes_junk_eq_canon]
  refine View.canon_eq_of_allAt _ _ _ (cover0_A_7 c i arg2 harg2 arg3 harg3 arg4 harg4 arg5 harg5 arg6 harg6 arg7 harg7 arg8 harg8 arg9 harg9 x0 x1 x2 x3 x4 x5 x6 _) ?_
  have eb : blk x0 x1 x2 x3 (View.readAt (Elt Ideal) arg6.view (Rect.unit (s := S1x256x256) ![0, 0, 0] ![1, 256, 256] inb_S1x256x256_S1x256x256_0_0_0).toLoadRect (harg6.unread x4)) (View.readAt (Elt Ideal) arg7.view (Rect.unit (s := S1x256x256) ![0, 0, 0] ![1, 256, 256] inb_S1x256x256_S1x256x256_0_0_0).toLoadRect (harg7.unread x5)) x6 p l = blk x0 x1 x2 x3 x4 x5 x6 p l := by rw [e4, e5]
  rw [← eb]
  have := loop_at c i arg2 harg2 arg3 harg3 arg4 harg4 arg5 harg5 arg6 harg6 arg7 harg7 arg8 harg8 arg9 harg9 x0 x1 x2 x3 (View.readAt (Elt Ideal) arg6.view (Rect.unit (s := S1x256x256) ![0, 0, 0] ![1, 256, 256] inb_S1x256x256_S1x256x256_0_0_0).toLoadRect (harg6.unread x4)) (View.readAt (Elt Ideal) arg7.view (Rect.unit (s := S1x256x256) ![0, 0, 0] ![1, 256, 256] inb_S1x256x256_S1x256x256_0_0_0).toLoadRect (harg7.unread x5)) x6 _ _ _ head0 head1 head2 _ _ _ _ _ head3 p l
    (Scf.trips 0#32 (Scalar.addi 0#32 8#32) 1#32) (by decide +kernel)
  delta kernelRun0_A
  exact this

end

end Cert.KernelIdeal.Attn

end
-- ==== Proof.KLit.lean ====
/- The windows of the grid's columns as the host line's table spells them. -/
module

public import proofs.«01_k».proof.Proof.KRow

@[expose] public section

set_option maxRecDepth 16384

noncomputable section

namespace Cert.KernelIdeal.Attn

open Cert.KernelIdeal Cert.KernelIdeal.Gen Idealize.ShloMosaic Idealize.ShloMosaic.TcCoe Idealize.SL.Sem

/-- The first column of a column's window. -/
def csk (c : ℕ) : ℕ := min 48 (c - 8)

/-- The clamped column offset. -/
def djk (c k : ℕ) : ℕ := min 30 (k + 15 - c)

theorem cols_lit : ∀ q k : Fin 64, lit1t (q.val * 64 + k.val) = if csk q.val ≤ k.val ∧ k.val < csk q.val + 16 then 1#1 else 0#1 := by decide +kernel

end Cert.KernelIdeal.Attn

end
-- ==== Proof.KHot0.lean ====
/- Rows 0 to 7 of the one-hot matrix of the column offsets. -/
module

public import proofs.«01_k».proof.Proof.KLit

@[expose] public section

set_option maxRecDepth 16384

noncomputable section

namespace Cert.KernelIdeal.Attn

open Cert.KernelIdeal Cert.KernelIdeal.Gen Idealize.ShloMosaic Idealize.ShloMosaic.TcCoe Idealize.SL.Sem

/-- Row 0: one where the column offset is 0, else zero. -/
theorem hot0 : ∀ q k : Fin 64, lit0t (0 * 4096 + (q.val * 64 + k.val)) = if 0 = djk q.val k.val then 0x3F800000#32 else 0#32 := by decide +kernel

/-- Row 1: one where the column offset is 1, else zero. -/
theorem hot1 : ∀ q k : Fin 64, lit0t (1 * 4096 + (q.val * 64 + k.val)) = if 1 = djk q.val k.val then 0x3F800000#32 else 0#32 := by decide +kernel

/-- Row 2: one where the column offset is 2, else zero. -/
theorem hot2 : ∀ q k : Fin 64, lit0t (2 * 4096 + (q.val * 64 + k.val)) = if 2 = djk q.val k.val then 0x3F800000#32 else 0#32 := by decide +kernel

/-- Row 3: one where the column offset is 3, else zero. -/
theorem hot3 : ∀ q k : Fin 64, lit0t (3 * 4096 + (q.val * 64 + k.val)) = if 3 = djk q.val k.val then 0x3F800000#32 else 0#32 := by decide +kernel

/-- Row 4: one where the column offset is 4, else zero. -/
theorem hot4 : ∀ q k : Fin 64, lit0t (4 * 4096 + (q.val * 64 + k.val)) = if 4 = djk q.val k.val then 0x3F800000#32 else 0#32 := by decide +kernel

/-- Row 5: one where the column offset is 5, else zero. -/
theorem hot5 : ∀ q k : Fin 64, lit0t (5 * 4096 + (q.val * 64 + k.val)) = if 5 = djk q.val k.val then 0x3F800000#32 else 0#32 := by decide +kernel

/-- Row 6: one where the column offset is 6, else zero. -/
theorem hot6 : ∀ q k : Fin 64, lit0t (6 * 4096 + (q.val * 64 + k.val)) = if 6 = djk q.val k.val then 0x3F800000#32 else 0#32 := by decide +kernel

/-- Row 7: one where the column offset is 7, else zero. -/
theorem hot7 : ∀ q k : Fin 64, lit0t (7 * 4096 + (q.val * 64 + k.val)) = if 7 = djk q.val k.val then 0x3F800000#32 else 0#32 := by decide +kernel

end Cert.KernelIdeal.Attn

end
-- ==== Proof.KHot1.lean ====
/- Rows 8 to 15 of the one-hot matrix of the column offsets. -/
module

public import proofs.«01_k».proof.Proof.KLit

@[expose] public section

set_option maxRecDepth 16384

noncomputable section

namespace Cert.KernelIdeal.Attn

open Cert.KernelIdeal Cert.KernelIdeal.Gen Idealize.ShloMosaic Idealize.ShloMosaic.TcCoe Idealize.SL.Sem

/-- Row 8: one where the column offset is 8, else zero. -/
theorem hot8 : ∀ q k : Fin 64, lit0t (8 * 4096 + (q.val * 64 + k.val)) = if 8 = djk q.val k.val then 0x3F800000#32 else 0#32 := by decide +kernel

/-- Row 9: one where the column offset is 9, else zero. -/
theorem hot9 : ∀ q k : Fin 64, lit0t (9 * 4096 + (q.val * 64 + k.val)) = if 9 = djk q.val k.val then 0x3F800000#32 else 0#32 := by decide +kernel

/-- Row 10: one where the column offset is 10, else zero. -/
theorem hot10 : ∀ q k : Fin 64, lit0t (10 * 4096 + (q.val * 64 + k.val)) = if 10 = djk q.val k.val then 0x3F800000#32 else 0#32 := by decide +kernel

/-- Row 11: one where the column offset is 11, else zero. -/
theorem hot11 : ∀ q k : Fin 64, lit0t (11 * 4096 + (q.val * 64 + k.val)) = if 11 = djk q.val k.val then 0x3F800000#32 else 0#32 := by decide +kernel

/-- Row 12: one where the column offset is 12, else zero. -/
theorem hot12 : ∀ q k : Fin 64, lit0t (12 * 4096 + (q.val * 64 + k.val)) = if 12 = djk q.val k.val then 0x3F800000#32 else 0#32 := by decide +kernel

/-- Row 13: one where the column offset is 13, else zero. -/
theorem hot13 : ∀ q k : Fin 64, lit0t (13 * 4096 + (q.val * 64 + k.val)) = if 13 = djk q.val k.val then 0x3F800000#32 else 0#32 := by decide +kernel

/-- Row 14: one where the column offset is 14, else zero. -/
theorem hot14 : ∀ q k : Fin 64, lit0t (14 * 4096 + (q.val * 64 + k.val)) = if 14 = djk q.val k.val then 0x3F800000#32 else 0#32 := by decide +kernel

/-- Row 15: one where the column offset is 15, else zero. -/
theorem hot15 : ∀ q k : Fin 64, lit0t (15 * 4096 + (q.val * 64 + k.val)) = if 15 = djk q.val k.val then 0x3F800000#32 else 0#32 := by decide +kernel

end Cert.KernelIdeal.Attn

end
-- ==== Proof.KHot2.lean ====
/- Rows 16 to 23 of the one-hot matrix of the column offsets. -/
module

public import proofs.«01_k».proof.Proof.KLit

@[expose] public section

set_option maxRecDepth 16384

noncomputable section

namespace Cert.KernelIdeal.Attn

open Cert.KernelIdeal Cert.KernelIdeal.Gen Idealize.ShloMosaic Idealize.ShloMosaic.TcCoe Idealize.SL.Sem

/-- Row 16: one where the column offset is 16, else zero. -/
theorem hot16 : ∀ q k : Fin 64, lit0t (16 * 4096 + (q.val * 64 + k.val)) = if 16 = djk q.val k.val then 0x3F800000#32 else 0#32 := by decide +kernel

/-- Row 17: one where the column offset is 17, else zero. -/
theorem hot17 : ∀ q k : Fin 64, lit0t (17 * 4096 + (q.val * 64 + k.val)) = if 17 = djk q.val k.val then 0x3F800000#32 else 0#32 := by decide +kernel

/-- Row 18: one where the column offset is 18, else zero. -/
theorem hot18 : ∀ q k : Fin 64, lit0t (18 * 4096 + (q.val * 64 + k.val)) = if 18 = djk q.val k.val then 0x3F800000#32 else 0#32 := by decide +kernel

/-- Row 19: one where the column offset is 19, else zero. -/
theorem hot19 : ∀ q k : Fin 64, lit0t (19 * 4096 + (q.val * 64 + k.val)) = if 19 = djk q.val k.val then 0x3F800000#32 else 0#32 := by decide +kernel

/-- Row 20: one where the column offset is 20, else zero. -/
theorem hot20 : ∀ q k : Fin 64, lit0t (20 * 4096 + (q.val * 64 + k.val)) = if 20 = djk q.val k.val then 0x3F800000#32 else 0#32 := by decide +kernel

/-- Row 21: one where the column offset is 21, else zero. -/
theorem hot21 : ∀ q k : Fin 64, lit0t (21 * 4096 + (q.val * 64 + k.val)) = if 21 = djk q.val k.val then 0x3F800000#32 else 0#32 := by decide +kernel

/-- Row 22: one where the column offset is 22, else zero. -/
theorem hot22 : ∀ q k : Fin 64, lit0t (22 * 4096 + (q.val * 64 + k.val)) = if 22 = djk q.val k.val then 0x3F800000#32 else 0#32 := by decide +kernel

/-- Row 23: one where the column offset is 23, else zero. -/
theorem hot23 : ∀ q k : Fin 64, lit0t (23 * 4096 + (q.val * 64 + k.val)) = if 23 = djk q.val k.val then 0x3F800000#32 else 0#32 := by decide +kernel

end Cert.KernelIdeal.Attn

end
-- ==== Proof.KHot3.lean ====
/- Rows 24 to 30 of the one-hot matrix of the column offsets. -/
module

public import proofs.«01_k».proof.Proof.KLit

@[expose] public section

set_option maxRecDepth 16384

noncomputable section

namespace Cert.KernelIdeal.Attn

open Cert.KernelIdeal Cert.KernelIdeal.Gen Idealize.ShloMosaic Idealize.ShloMosaic.TcCoe Idealize.SL.Sem

/-- Row 24: one where the column offset is 24, else zero. -/
theorem hot24 : ∀ q k : Fin 64, lit0t (24 * 4096 + (q.val * 64 + k.val)) = if 24 = djk q.val k.val then 0x3F800000#32 else 0#32 := by decide +kernel

/-- Row 25: one where the column offset is 25, else zero. -/
theorem hot25 : ∀ q k : Fin 64, lit0t (25 * 4096 + (q.val * 64 + k.val)) = if 25 = djk q.val k.val then 0x3F800000#32 else 0#32 := by decide +kernel

/-- Row 26: one where the column offset is 26, else zero. -/
theorem hot26 : ∀ q k : Fin 64, lit0t (26 * 4096 + (q.val * 64 + k.val)) = if 26 = djk q.val k.val then 0x3F800000#32 else 0#32 := by decide +kernel

/-- Row 27: one where the column offset is 27, else zero. -/
theorem hot27 : ∀ q k : Fin 64, lit0t (27 * 4096 + (q.val * 64 + k.val)) = if 27 = djk q.val k.val then 0x3F800000#32 else 0#32 := by decide +kernel

/-- Row 28: one where the column offset is 28, else zero. -/
theorem hot28 : ∀ q k : Fin 64, lit0t (28 * 4096 + (q.val * 64 + k.val)) = if 28 = djk q.val k.val then 0x3F800000#32 else 0#32 := by decide +kernel

/-- Row 29: one where the column offset is 29, else zero. -/
theorem hot29 : ∀ q k : Fin 64, lit0t (29 * 4096 + (q.val * 64 + k.val)) = if 29 = djk q.val k.val then 0x3F800000#32 else 0#32 := by decide +kernel

/-- Row 30: one where the column offset is 30, else zero. -/
theorem hot30 : ∀ q k : Fin 64, lit0t (30 * 4096 + (q.val * 64 + k.val)) = if 30 = djk q.val k.val then 0x3F800000#32 else 0#32 := by decide +kernel

end Cert.KernelIdeal.Attn

end
-- ==== Proof.KTab.lean ====
/- The bias table the host line computes for the kernel: its operations composed, and its entries. -/
module

public import proofs.«01_k».proof.Proof.KHot0
public import proofs.«01_k».proof.Proof.KHot1
public import proofs.«01_k».proof.Proof.KHot2
public import proofs.«01_k».proof.Proof.KHot3
public import Idealize.ShloMosaic.Lib.Pointwise
public import Idealize.ShloMosaic.Lib.Claim

@[expose] public section

set_option maxRecDepth 16384

noncomputable section

namespace Cert.KernelIdeal.Attn

open Cert.KernelIdeal Cert.KernelIdeal.Gen Idealize.ShloMosaic Idealize.ShloMosaic.TcCoe Idealize.SL.Sem

/-- The one-hot matrix. -/
def hot : FVec Ideal S31x4096 .f32 := fun i => FloatOps.ofBits (F := Ideal) .f32 (lit0 (S31x4096.rowMajor i))

/-- The column windows. -/
def win : IVec S64x64 1 := fun i => lit1 (S64x64.rowMajor i)

/-- The bias of every head, row offset, query column and key column. -/
def cols (X : FVec Ideal S1x16x15x31 .f32) : FVec Ideal S16x15x64x64 .f32 :=
  shapeCast S16x15x64x64 (Host.dotGeneral dot_S240x31_S31x4096_S240x4096_1_0_0_1_n_n (some .fp32)
    (shapeCast S240x31 (shapeCast S16x15x31 X shapeCasts_S1x16x15x31_S16x15x31) shapeCasts_S16x15x31_S240x31) hot) shapeCasts_S240x4096_S16x15x64x64

/-- It masked. -/
def masked (X : FVec Ideal S1x16x15x31 .f32) : FVec Ideal S16x15x64x64 .f32 :=
  select (broadcastInDim S16x15x64x64 ![0, 1, 2, 3] bcast_S1x1x64x64_S16x15x64x64_0_1_2_3 (broadcastInDim S1x1x64x64 ![2, 3] bcast_S64x64_S1x1x64x64_2_3 win))
    (cols X) (broadcastInDim S16x15x64x64 ![] bcast_S_S16x15x64x64 (constant (F := Ideal) S_ .f32 0xFF800000#32))

/-- By head, query column, row offset and key column. -/
def turned (Y : FVec Ideal S16x15x64x64 .f32) : FVec Ideal S16x64x15x64 .f32 :=
  transpose S16x64x15x64 [0, 2, 1, 3] Y transposes_S16x15x64x64_S16x64x15x64_0_2_1_3

/-- The table of the rows 0 below their window's first. -/
def tab0 (Y : FVec Ideal S16x15x64x64 .f32) : FVec Ideal S16x1x64x512 .f32 :=
  broadcastInDim S16x1x64x512 ![0, 2, 3] bcast_S16x64x512_S16x1x64x512_0_2_3
    (shapeCast S16x64x512 (extractStridedSlice S16x64x8x64 ![0, 0, 7, 0] (turned Y) slices_S16x64x15x64_S16x64x8x64_0_0_7_0) shapeCasts_S16x64x8x64_S16x64x512)

/-- The table of the rows 1 below their window's first. -/
def tab1 (Y : FVec Ideal S16x15x64x64 .f32) : FVec Ideal S16x1x64x512 .f32 :=
  broadcastInDim S16x1x64x512 ![0, 2, 3] bcast_S16x64x512_S16x1x64x512_0_2_3
    (shapeCast S16x64x512 (extractStridedSlice S16x64x8x64 ![0, 0, 6, 0] (turned Y) slices_S16x64x15x64_S16x64x8x64_0_0_6_0) shapeCasts_S16x64x8x64_S16x64x512)

/-- The table of the rows 2 below their window's first. -/
def tab2 (Y : FVec Ideal S16x15x64x64 .f32) : FVec Ideal S16x1x64x512 .f32 :=
  broadcastInDim S16x1x64x512 ![0, 2, 3] bcast_S16x64x512_S16x1x64x512_0_2_3
    (shapeCast S16x64x512 (extractStridedSlice S16x64x8x64 ![0, 0, 5, 0] (turned Y) slices_S16x64x15x64_S16x64x8x64_0_0_5_0) shapeCasts_S16x64x8x64_S16x64x512)

/-- The table of the rows 3 below their window's first. -/
def tab3 (Y : FVec Ideal S16x15x64x64 .f32) : FVec Ideal S16x1x64x512 .f32 :=
  broadcastInDim S16x1x64x512 ![0, 2, 3] bcast_S16x64x512_S16x1x64x512_0_2_3
    (shapeCast S16x64x512 (extractStridedSlice S16x64x8x64 ![0, 0, 4, 0] (turned Y) slices_S16x64x15x64_S16x64x8x64_0_0_4_0) shapeCasts_S16x64x8x64_S16x64x512)

/-- The table of the rows 4 below their window's first. -/
def tab4 (Y : FVec Ideal S16x15x64x64 .f32) : FVec Ideal S16x1x64x512 .f32 :=
  broadcastInDim S16x1x64x512 ![0, 2, 3] bcast_S16x64x512_S16x1x64x512_0_2_3
    (shapeCast S16x64x512 (extractStridedSlice S16x64x8x64 ![0, 0, 3, 0] (turned Y) slices_S16x64x15x64_S16x64x8x64_0_0_3_0) shapeCasts_S16x64x8x64_S16x64x512)

/-- The table of the rows 5 below their window's first. -/
def tab5 (Y : FVec Ideal S16x15x64x64 .f32) : FVec Ideal S16x1x64x512 .f32 :=
  broadcastInDim S16x1x64x512 ![0, 2, 3] bcast_S16x64x512_S16x1x64x512_0_2_3
    (shapeCast S16x64x512 (extractStridedSlice S16x64x8x64 ![0, 0, 2, 0] (turned Y) slices_S16x64x15x64_S16x64x8x64_0_0_2_0) shapeCasts_S16x64x8x64_S16x64x512)

/-- The table of the rows 6 below their window's first. -/
def tab6 (Y : FVec Ideal S16x15x64x64 .f32) : FVec Ideal S16x1x64x512 .f32 :=
  broadcastInDim S16x1x64x512 ![0, 2, 3] bcast_S16x64x512_S16x1x64x512_0_2_3
    (shapeCast S16x64x512 (extractStridedSlice S16x64x8x64 ![0, 0, 1, 0] (turned Y) slices_S16x64x15x64_S16x64x8x64_0_0_1_0) shapeCasts_S16x64x8x64_S16x64x512)

/-- The table of the rows 7 below their window's first. -/
def tab7 (Y : FVec Ideal S16x15x64x64 .f32) : FVec Ideal S16x1x64x512 .f32 :=
  broadcastInDim S16x1x64x512 ![0, 2, 3] bcast_S16x64x512_S16x1x64x512_0_2_3
    (shapeCast S16x64x512 (extractStridedSlice S16x64x8x64 ![0, 0, 0, 0] (turned Y) slices_S16x64x15x64_S16x64x8x64_0_0_0_0) shapeCasts_S16x64x8x64_S16x64x512)

/-- All of them. -/
def tab (Y : FVec Ideal S16x15x64x64 .f32) : FVec Ideal S4x4x8x64x512 .f32 :=
  shapeCast S4x4x8x64x512 (concatenate S16x8x64x512 1 [⟨S16x1x64x512, tab0 Y⟩, ⟨S16x1x64x512, tab1 Y⟩, ⟨S16x1x64x512, tab2 Y⟩, ⟨S16x1x64x512, tab3 Y⟩, ⟨S16x1x64x512, tab4 Y⟩, ⟨S16x1x64x512, tab5 Y⟩, ⟨S16x1x64x512, tab6 Y⟩, ⟨S16x1x64x512, tab7 Y⟩] concatenates_S16x1x64x512_S16x1x64x512_S16x1x64x512_S16x1x64x512_S16x1x64x512_S16x1x64x512_S16x1x64x512_S16x1x64x512_S16x8x64x512_d1)
    shapeCasts_S16x8x64x512_S4x4x8x64x512

theorem seg2 (W : Valuation τ sig (Elt Ideal)) :
    StableHlo.after (hostOps0_2 (F := Ideal)) W (Proc.devRef .tc main_v32) = tab (W (Proc.devRef .tc main_v5)) := by
  delta hostOps0_2
  after_results
  rfl

theorem seg1 (W : Valuation τ sig (Elt Ideal)) :
    StableHlo.after (hostOps0_1 (F := Ideal)) W (Proc.devRef .tc main_v5)
      = select (broadcastInDim S16x15x64x64 ![0, 1, 2, 3] bcast_S1x1x64x64_S16x15x64x64_0_1_2_3 (W (Proc.devRef .tc main_v0)))
        (W (Proc.devRef .tc main_v4)) (broadcastInDim S16x15x64x64 ![] bcast_S_S16x15x64x64 (W (Proc.devRef .tc main_cst_0))) := by
  delta hostOps0_1
  after_results
  rfl

theorem seg0_v0 (W : Valuation τ sig (Elt Ideal)) :
    StableHlo.after (hostOps0 (F := Ideal)) W (Proc.devRef .tc main_v0) = broadcastInDim S1x1x64x64 ![2, 3] bcast_S64x64_S1x1x64x64_2_3 win := by
  delta hostOps0
  after_results
  rfl

theorem seg0_cst (W : Valuation τ sig (Elt Ideal)) :
    StableHlo.after (hostOps0 (F := Ideal)) W (Proc.devRef .tc main_cst_0) = constant (F := Ideal) S_ .f32 0xFF800000#32 := by
  delta hostOps0
  after_results

theorem seg0_v4 (W : Valuation τ sig (Elt Ideal)) :
    StableHlo.after (hostOps0 (F := Ideal)) W (Proc.devRef .tc main_v4) = cols (W (Proc.devRef .tc main_arg2)) := by
  delta hostOps0
  after_results
  rfl

theorem tab_eq (m : (ℓ : Loc nD τ sig) → Buf (Elt Ideal) ℓ) (c : Dev nD) :
    V m c main_v32 = tab (masked (m ((c : Thread nD τ).loc main_arg2))) := by
  show StableHlo.after (hostOps0 ++ (hostOps0_1 ++ (hostOps0_2 ++ []))) (fun b => m (c, b)) (Proc.tc.devRef main_v32) = _
  rw [StableHlo.after_append, StableHlo.after_append, List.append_nil, seg2, seg1, seg0_v0, seg0_cst, seg0_v4]
  rfl

/-- Thirty-one facts, one for each row, as one fact about every row. -/
theorem rows31 (f : ℕ → ℕ → ℕ → BitVec 32)
    (h0 : ∀ q k : Fin 64, f 0 q.val k.val = if 0 = djk q.val k.val then 0x3F800000#32 else 0#32)
    (h1 : ∀ q k : Fin 64, f 1 q.val k.val = if 1 = djk q.val k.val then 0x3F800000#32 else 0#32)
    (h2 : ∀ q k : Fin 64, f 2 q.val k.val = if 2 = djk q.val k.val then 0x3F800000#32 else 0#32)
    (h3 : ∀ q k : Fin 64, f 3 q.val k.val = if 3 = djk q.val k.val then 0x3F800000#32 else 0#32)
    (h4 : ∀ q k : Fin 64, f 4 q.val k.val = if 4 = djk q.val k.val then 0x3F800000#32 else 0#32)
    (h5 : ∀ q k : Fin 64, f 5 q.val k.val = if 5 = djk q.val k.val then 0x3F800000#32 else 0#32)
    (h6 : ∀ q k : Fin 64, f 6 q.val k.val = if 6 = djk q.val k.val then 0x3F800000#32 else 0#32)
    (h7 : ∀ q k : Fin 64, f 7 q.val k.val = if 7 = djk q.val k.val then 0x3F800000#32 else 0#32)
    (h8 : ∀ q k : Fin 64, f 8 q.val k.val = if 8 = djk q.val k.val then 0x3F800000#32 else 0#32)
    (h9 : ∀ q k : Fin 64, f 9 q.val k.val = if 9 = djk q.val k.val then 0x3F800000#32 else 0#32)
    (h10 : ∀ q k : Fin 64, f 10 q.val k.val = if 10 = djk q.val k.val then 0x3F800000#32 else 0#32)
    (h11 : ∀ q k : Fin 64, f 11 q.val k.val = if 11 = djk q.val k.val then 0x3F800000#32 else 0#32)
    (h12 : ∀ q k : Fin 64, f 12 q.val k.val = if 12 = djk q.val k.val then 0x3F800000#32 else 0#32)
    (h13 : ∀ q k : Fin 64, f 13 q.val k.val = if 13 = djk q.val k.val then 0x3F800000#32 else 0#32)
    (h14 : ∀ q k : Fin 64, f 14 q.val k.val = if 14 = djk q.val k.val then 0x3F800000#32 else 0#32)
    (h15 : ∀ q k : Fin 64, f 15 q.val k.val = if 15 = djk q.val k.val then 0x3F800000#32 else 0#32)
    (h16 : ∀ q k : Fin 64, f 16 q.val k.val = if 16 = djk q.val k.val then 0x3F800000#32 else 0#32)
    (h17 : ∀ q k : Fin 64, f 17 q.val k.val = if 17 = djk q.val k.val then 0x3F800000#32 else 0#32)
    (h18 : ∀ q k : Fin 64, f 18 q.val k.val = if 18 = djk q.val k.val then 0x3F800000#32 else 0#32)
    (h19 : ∀ q k : Fin 64, f 19 q.val k.val = if 19 = djk q.val k.val then 0x3F800000#32 else 0#32)
    (h20 : ∀ q k : Fin 64, f 20 q.val k.val = if 20 = djk q.val k.val then 0x3F800000#32 else 0#32)
    (h21 : ∀ q k : Fin 64, f 21 q.val k.val = if 21 = djk q.val k.val then 0x3F800000#32 else 0#32)
    (h22 : ∀ q k : Fin 64, f 22 q.val k.val = if 22 = djk q.val k.val then 0x3F800000#32 else 0#32)
    (h23 : ∀ q k : Fin 64, f 23 q.val k.val = if 23 = djk q.val k.val then 0x3F800000#32 else 0#32)
    (h24 : ∀ q k : Fin 64, f 24 q.val k.val = if 24 = djk q.val k.val then 0x3F800000#32 else 0#32)
    (h25 : ∀ q k : Fin 64, f 25 q.val k.val = if 25 = djk q.val k.val then 0x3F800000#32 else 0#32)
    (h26 : ∀ q k : Fin 64, f 26 q.val k.val = if 26 = djk q.val k.val then 0x3F800000#32 else 0#32)
    (h27 : ∀ q k : Fin 64, f 27 q.val k.val = if 27 = djk q.val k.val then 0x3F800000#32 else 0#32)
    (h28 : ∀ q k : Fin 64, f 28 q.val k.val = if 28 = djk q.val k.val then 0x3F800000#32 else 0#32)
    (h29 : ∀ q k : Fin 64, f 29 q.val k.val = if 29 = djk q.val k.val then 0x3F800000#32 else 0#32)
    (h30 : ∀ q k : Fin 64, f 30 q.val k.val = if 30 = djk q.val k.val then 0x3F800000#32 else 0#32)
    (x : Fin 31) (q k : Fin 64) : f x.val q.val k.val = if x.val = djk q.val k.val then 0x3F800000#32 else 0#32 :=
  match x with
  | ⟨0, _⟩ => h0 q k
  | ⟨1, _⟩ => h1 q k
  | ⟨2, _⟩ => h2 q k
  | ⟨3, _⟩ => h3 q k
  | ⟨4, _⟩ => h4 q k
  | ⟨5, _⟩ => h5 q k
  | ⟨6, _⟩ => h6 q k
  | ⟨7, _⟩ => h7 q k
  | ⟨8, _⟩ => h8 q k
  | ⟨9, _⟩ => h9 q k
  | ⟨10, _⟩ => h10 q k
  | ⟨11, _⟩ => h11 q k
  | ⟨12, _⟩ => h12 q k
  | ⟨13, _⟩ => h13 q k
  | ⟨14, _⟩ => h14 q k
  | ⟨15, _⟩ => h15 q k
  | ⟨16, _⟩ => h16 q k
  | ⟨17, _⟩ => h17 q k
  | ⟨18, _⟩ => h18 q k
  | ⟨19, _⟩ => h19 q k
  | ⟨20, _⟩ => h20 q k
  | ⟨21, _⟩ => h21 q k
  | ⟨22, _⟩ => h22 q k
  | ⟨23, _⟩ => h23 q k
  | ⟨24, _⟩ => h24 q k
  | ⟨25, _⟩ => h25 q k
  | ⟨26, _⟩ => h26 q k
  | ⟨27, _⟩ => h27 q k
  | ⟨28, _⟩ => h28 q k
  | ⟨29, _⟩ => h29 q k
  | ⟨30, _⟩ => h30 q k
  | ⟨n + 31, h⟩ => absurd h (by omega)

theorem hot_row (x : Fin 31) (q k : Fin 64) : lit0t (x.val * 4096 + (q.val * 64 + k.val)) = if x.val = djk q.val k.val then 0x3F800000#32 else 0#32 :=
  rows31 (fun x q k => lit0t (x * 4096 + (q * 64 + k))) hot0 hot1 hot2 hot3 hot4 hot5 hot6 hot7 hot8 hot9 hot10 hot11 hot12 hot13 hot14 hot15 hot16 hot17 hot18 hot19 hot20 hot21 hot22 hot23 hot24 hot25 hot26 hot27 hot28 hot29 hot30 x q k

theorem hot_apply (x : Fin 31) (q k : Fin 64) (p : Fin 4096) (hp : p.val = q.val * 64 + k.val) :
    hot (ix2 x p) = if x.val = djk q.val k.val then 1 else 0 := by
  have e : (S31x4096.rowMajor (ix2 x p)).val = x.val * 4096 + (q.val * 64 + k.val) := by
    rw [← hp]
    exact rowMajor_val2 (ix2 x p) 4096 rfl
  have z : hot (ix2 x p) = Ideal.ofBits .f32 (lit0t (S31x4096.rowMajor (ix2 x p)).val) := rfl
  rw [z, e, hot_row]
  split
  · simp [Ideal.ofBits, Ideal.ieee]
    rw [← EReal.coe_mul]
    norm_num
  · exact (by simp [Ideal.ofBits, Ideal.ieee] : Ideal.ofBits .f32 0#32 = 0)

theorem djk_lt (q k : ℕ) : djk q k < 31 := by unfold djk; omega

theorem cols_apply (X : FVec Ideal S1x16x15x31 .f32) (h : Fin 16) (r : Fin 15) (q k : Fin 64) :
    cols X (ix4 h r q k) = X (ix4 0 h r ⟨djk q.val k.val, djk_lt _ _⟩) := by
  have e : cols X (ix4 h r q k) = ∑ x, X (ix4 0 h r x) * hot (ix2 x ⟨q.val * 64 + k.val, by omega⟩) := by
    pointwise [cols]
  rw [e]
  have a : ∀ x : Fin 31, hot (ix2 x ⟨q.val * 64 + k.val, by omega⟩) = if x.val = djk q.val k.val then 1 else 0 := fun x => hot_apply x q k _ rfl
  simp only [a]
  rw [Finset.sum_eq_single ⟨djk q.val k.val, djk_lt _ _⟩]
  · rw [if_pos rfl, mul_one]
  · intro b _ hb
    rw [if_neg fun e => hb (Fin.ext e), mul_zero]
  · intro hn; exact absurd (Finset.mem_univ _) hn

theorem win_apply (q k : Fin 64) : win (ix2 q k) = if csk q.val ≤ k.val ∧ k.val < csk q.val + 16 then 1#1 else 0#1 := by
  have e : (S64x64.rowMajor (ix2 q k)).val = q.val * 64 + k.val := rowMajor_val2 (ix2 q k) 64 rfl
  have z : win (ix2 q k) = lit1t (S64x64.rowMajor (ix2 q k)).val := rfl
  rw [z, e, cols_lit]

theorem masked_apply (X : FVec Ideal S1x16x15x31 .f32) (h : Fin 16) (r : Fin 15) (q k : Fin 64) :
    masked X (ix4 h r q k) = Scalar.select (win (ix2 q k)) (cols X (ix4 h r q k)) (Ideal.ofBits .f32 0xFF800000#32) := by
  pointwise [masked]

theorem tab0_apply (Y : FVec Ideal S16x15x64x64 .f32) (h : Fin 16) (a : Fin 1) (q : Fin 64) (n : Fin 512) :
    tab0 Y (ix4 h a q n) = Y (ix4 h ⟨7 + n.val / 64, by omega⟩ q ⟨n.val % 64, by omega⟩) := by
  pointwise [tab0, turned]

theorem tab1_apply (Y : FVec Ideal S16x15x64x64 .f32) (h : Fin 16) (a : Fin 1) (q : Fin 64) (n : Fin 512) :
    tab1 Y (ix4 h a q n) = Y (ix4 h ⟨6 + n.val / 64, by omega⟩ q ⟨n.val % 64, by omega⟩) := by
  pointwise [tab1, turned]

theorem tab2_apply (Y : FVec Ideal S16x15x64x64 .f32) (h : Fin 16) (a : Fin 1) (q : Fin 64) (n : Fin 512) :
    tab2 Y (ix4 h a q n) = Y (ix4 h ⟨5 + n.val / 64, by omega⟩ q ⟨n.val % 64, by omega⟩) := by
  pointwise [tab2, turned]

theorem tab3_apply (Y : FVec Ideal S16x15x64x64 .f32) (h : Fin 16) (a : Fin 1) (q : Fin 64) (n : Fin 512) :
    tab3 Y (ix4 h a q n) = Y (ix4 h ⟨4 + n.val / 64, by omega⟩ q ⟨n.val % 64, by omega⟩) := by
  pointwise [tab3, turned]

theorem tab4_apply (Y : FVec Ideal S16x15x64x64 .f32) (h : Fin 16) (a : Fin 1) (q : Fin 64) (n : Fin 512) :
    tab4 Y (ix4 h a q n) = Y (ix4 h ⟨3 + n.val / 64, by omega⟩ q ⟨n.val % 64, by omega⟩) := by
  pointwise [tab4, turned]

theorem tab5_apply (Y : FVec Ideal S16x15x64x64 .f32) (h : Fin 16) (a : Fin 1) (q : Fin 64) (n : Fin 512) :
    tab5 Y (ix4 h a q n) = Y (ix4 h ⟨2 + n.val / 64, by omega⟩ q ⟨n.val % 64, by omega⟩) := by
  pointwise [tab5, turned]

theorem tab6_apply (Y : FVec Ideal S16x15x64x64 .f32) (h : Fin 16) (a : Fin 1) (q : Fin 64) (n : Fin 512) :
    tab6 Y (ix4 h a q n) = Y (ix4 h ⟨1 + n.val / 64, by omega⟩ q ⟨n.val % 64, by omega⟩) := by
  pointwise [tab6, turned]

theorem tab7_apply (Y : FVec Ideal S16x15x64x64 .f32) (h : Fin 16) (a : Fin 1) (q : Fin 64) (n : Fin 512) :
    tab7 Y (ix4 h a q n) = Y (ix4 h ⟨0 + n.val / 64, by omega⟩ q ⟨n.val % 64, by omega⟩) := by
  pointwise [tab7, turned]

theorem tab_apply (Y : FVec Ideal S16x15x64x64 .f32) (g h : Fin 4) (o : Fin 8) (q : Fin 64) (n : Fin 512) :
    tab Y (ix5 g h o q n) = Y (ix4 ⟨g.val * 4 + h.val, by omega⟩ ⟨7 - o.val + n.val / 64, by omega⟩ q ⟨n.val % 64, by omega⟩) := by
  pointwise [tab]
  simp only [tab0_apply, tab1_apply, tab2_apply, tab3_apply, tab4_apply, tab5_apply, tab6_apply, tab7_apply]
  have ho := o.isLt
  split
  · exact congrArg (fun z => Y (ix4 _ z q _)) (Fin.ext (by show 7 + n.val / 64 = 7 - o.val + n.val / 64; omega))
  split
  · exact congrArg (fun z => Y (ix4 _ z q _)) (Fin.ext (by show 6 + n.val / 64 = 7 - o.val + n.val / 64; omega))
  split
  · exact congrArg (fun z => Y (ix4 _ z q _)) (Fin.ext (by show 5 + n.val / 64 = 7 - o.val + n.val / 64; omega))
  split
  · exact congrArg (fun z => Y (ix4 _ z q _)) (Fin.ext (by show 4 + n.val / 64 = 7 - o.val + n.val / 64; omega))
  split
  · exact congrArg (fun z => Y (ix4 _ z q _)) (Fin.ext (by show 3 + n.val / 64 = 7 - o.val + n.val / 64; omega))
  split
  · exact congrArg (fun z => Y (ix4 _ z q _)) (Fin.ext (by show 2 + n.val / 64 = 7 - o.val + n.val / 64; omega))
  split
  · exact congrArg (fun z => Y (ix4 _ z q _)) (Fin.ext (by show 1 + n.val / 64 = 7 - o.val + n.val / 64; omega))
  · exact congrArg (fun z => Y (ix4 _ z q _)) (Fin.ext (by show 0 + n.val / 64 = 7 - o.val + n.val / 64; omega))

/-- An entry of the bias table: the bias of its head, row offset and column offset inside the column's window, ⊥ outside. -/
theorem bias_tab (X : FVec Ideal S1x16x15x31 .f32) (g h : Fin 4) (o : Fin 8) (q : Fin 64) (n : Fin 512) :
    tab (masked X) (ix5 g h o q n)
      = if csk q.val ≤ n.val % 64 ∧ n.val % 64 < csk q.val + 16 then
          X (ix4 0 ⟨g.val * 4 + h.val, by omega⟩ ⟨7 - o.val + n.val / 64, by omega⟩ ⟨djk q.val (n.val % 64), djk_lt _ _⟩)
        else ⊥ := by
  rw [tab_apply, masked_apply, win_apply, cols_apply]
  have zb : Ideal.ofBits .f32 0xFF800000#32 = ⊥ := by simp [Ideal.ofBits, Ideal.ieee]
  rw [zb]
  split <;> rfl

end Cert.KernelIdeal.Attn

end
-- ==== Proof.KArr.lean ====
/- The kernel's result array: its blocks placed, and the blocks it reads taken back to the arguments. -/
module

public import proofs.«01_k».proof.Proof.KOut
public import proofs.«01_k».proof.Proof.KTab
public import proofs.«01_k».proof.Proof.Gen.KernelIdeal.Value
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N,
    win0_0.index t = ![(grid0.coords t 0).val, 0, 12 + (grid0.coords t 1).val]
    ∧ win0_1.index t = ![(grid0.coords t 0).val, 0, 16 + (grid0.coords t 1).val]
    ∧ win0_2.index t = ![(grid0.coords t 0).val, 0, 20 + (grid0.coords t 1).val]
    ∧ win0_3.index t = ![(grid0.coords t 0).val, 0, 24 + (grid0.coords t 1).val]
    ∧ win0_4.index t = ![(grid0.coords t 0).val, 0, 16 + (grid0.coords t 1).val]
    ∧ win0_5.index t = ![(grid0.coords t 0).val, 0, 20 + (grid0.coords t 1).val]
    ∧ win0_6.index t = ![(grid0.coords t 1).val, 0, 0, 0, 0]
    ∧ win0_7.index t = ![(grid0.coords t 0).val, 0, (grid0.coords t 1).val]
    ∧ (grid0.coords t 0).val < 8 ∧ (grid0.coords t 1).val < 4 :=
  (by decide +kernel : ∀ t : Fin grid0.N, _)

/-- A block of queries, keys, values or gates at part offset `o` of head group `g`. -/
def part (X : FVec Ideal S8x4096x10752 .bf16) (o : ℕ) (ho : o + 1024 ≤ 10752) (b : Fin 8) (g : Fin 4) : Vec Ideal S1x4096x256 .bf16 :=
  fun y => X (ix3 b (y 1) ⟨o + 256 * g.val + (y 2).val, by have h : (y 2).val < 256 := (y 2).isLt; omega⟩)

/-- … of the context. -/
def cpart (X : FVec Ideal S8x256x10752 .bf16) (o : ℕ) (ho : o + 1024 ≤ 10752) (b : Fin 8) (g : Fin 4) : Vec Ideal S1x256x256 .bf16 :=
  fun y => X (ix3 b (y 1) ⟨o + 256 * g.val + (y 2).val, by have h : (y 2).val < 256 := (y 2).isLt; omega⟩)

/-- The bias table of head group `g`. -/
def tpart (T : FVec Ideal S4x4x8x64x512 .f32) (g : Fin 4) : Vec Ideal S1x4x8x64x512 .f32 :=
  fun y => T (ix5 g (y 1) (y 2) (y 3) (y 4))

/-- The result, entry by entry. -/
def res (X0 : FVec Ideal S8x4096x10752 .bf16) (X1 : FVec Ideal S8x256x10752 .bf16) (T : FVec Ideal S4x4x8x64x512 .f32)
    (b : Fin 8) (g : Fin 4) (p : Fin 4096) (l : Fin 256) : EReal :=
  blk (part X0 3072 (by omega) b g) (part X0 4096 (by omega) b g) (part X0 5120 (by omega) b g) (part X0 6144 (by omega) b g)
    (cpart X1 4096 (by omega) b g) (cpart X1 5120 (by omega) b g) (tpart T g) p l

/-- The result as an array. -/
def resArr (X0 : FVec Ideal S8x4096x10752 .bf16) (X1 : FVec Ideal S8x256x10752 .bf16) (T : FVec Ideal S4x4x8x64x512 .f32) :
    FVec Ideal S8x4096x1024 .bf16 :=
  fun y => res X0 X1 T (y 0) ⟨(y 2).val / 256, by have h : (y 2).val < 1024 := (y 2).isLt; omega⟩ (y 1) ⟨(y 2).val % 256, by omega⟩

/-- The batch of a grid point. -/
def gb (t : Fin cfg0.N) : Fin 8 := ⟨(grid0.coords t 0).val, (idx t).2.2.2.2.2.2.2.2.1⟩
/-- The head group of a grid point. -/
def gg (t : Fin cfg0.N) : Fin 4 := ⟨(grid0.coords t 1).val, (idx t).2.2.2.2.2.2.2.2.2⟩

theorem blk0 (c : Dev nD) (t : Fin cfg0.N) : iblk m c 0 t = part (m ((c : Thread nD τ).loc main_arg0)) 3072 (by omega) (gb t) (gg t) := by
  funext y
  unfold part gb gg
  blk_ext [iblk, V, idx t]

theorem blk1 (c : Dev nD) (t : Fin cfg0.N) : iblk m c 1 t = part (m ((c : Thread nD τ).loc main_arg0)) 4096 (by omega) (gb t) (gg t) := by
  funext y
  unfold part gb gg
  blk_ext [iblk, V, idx t]

theorem blk2 (c : Dev nD) (t : Fin cfg0.N) : iblk m c 2 t = part (m ((c : Thread nD τ).loc main_arg0)) 5120 (by omega) (gb t) (gg t) := by
  funext y
  unfold part gb gg
  blk_ext [iblk, V, idx t]

theorem blk3 (c : Dev nD) (t : Fin cfg0.N) : iblk m c 3 t = part (m ((c : Thread nD τ).loc main_arg0)) 6144 (by omega) (gb t) (gg t) := by
  funext y
  unfold part gb gg
  blk_ext [iblk, V, idx t]

theorem blk4 (c : Dev nD) (t : Fin cfg0.N) : iblk m c 4 t = cpart (m ((c : Thread nD τ).loc main_arg1)) 4096 (by omega) (gb t) (gg t) := by
  funext y
  unfold cpart gb gg
  blk_ext [iblk, V, idx t]

theorem blk5 (c : Dev nD) (t : Fin cfg0.N) : iblk m c 5 t = cpart (m ((c : Thread nD τ).loc main_arg1)) 5120 (by omega) (gb t) (gg t) := by
  funext y
  unfold cpart gb gg
  blk_ext [iblk, V, idx t]

theorem blk6 (c : Dev nD) (t : Fin cfg0.N) : iblk m c 6 t = tpart (V m c main_v32) (gg t) := by
  funext y
  unfold tpart gg
  blk_ext [iblk, idx t]

/-- An entry of a written block is the result's entry where the block puts it. -/
theorem placed (X0 : FVec Ideal S8x4096x10752 .bf16) (X1 : FVec Ideal S8x256x10752 .bf16) (T : FVec Ideal S4x4x8x64x512 .f32)
    (b : Fin 8) (g : Fin 4) (p : Fin 4096) (l : Fin 256) (z : S8x4096x1024.Idx) (h0 : (z 0).val = b.val) (h1 : (z 1).val = p.val)
    (h2 : (z 2).val = g.val * 256 + l.val) : res X0 X1 T b g p l = resArr X0 X1 T z := by
  unfold resArr
  congr 1
  · exact Fin.ext h0.symm
  · exact Fin.ext (by show g.val = (z 2).val / 256; omega)
  · exact Fin.ext h1.symm
  · exact Fin.ext (by show l.val = (z 2).val % 256; omega)

/-- Where a written block's entry lies. -/
theorem place (t : Fin cfg0.N) (y : S1x4096x256.Idx) :
    ((((cfg0.win 7).blk t).view.emb y) 0).val = (gb t).val
    ∧ ((((cfg0.win 7).blk t).view.emb y) 1).val = (y 1).val
    ∧ ((((cfg0.win 7).blk t).view.emb y) 2).val = (gg t).val * 256 + (y 2).val := by
  unfold gb gg
  have hy : (y 0).val < 1 := (y 0).isLt
  refine ⟨?_, ?_, ?_⟩
  · blk_simp [idx t]
  · blk_simp [idx t]
  · blk_simp [idx t]
    try omega

/-- The body's output block at any of its indices. -/
theorem out_any (c : Dev nD) (t : Fin cfg0.N) (x0 x1 x2 x3 : Vec Ideal S1x4096x256 .bf16) (x4 x5 : Vec Ideal S1x256x256 .bf16)
    (x6 : Vec Ideal S1x4x8x64x512 .f32) (y : S1x4096x256.Idx) :
    out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) x0 x1 x2 x3 x4 x5 x6 y
      = blk x0 x1 x2 x3 x4 x5 x6 (y 1) (y 2) := by
  obtain ⟨a, p, l, rfl⟩ := ix3_cases y
  obtain rfl := Subsingleton.elim a 0
  exact out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) x0 x1 x2 x3 x4 x5 x6 p l

/-- The result array after the run. -/
theorem final (c : Dev nD) : (dats m 0 c).arrAt 7 cfg0.N
    = resArr (m ((c : Thread nD τ).loc main_arg0)) (m ((c : Thread nD τ).loc main_arg1)) (V m c main_v32) := by
  refine (dats m 0 c).arrAt_eq_of_covers 7 _ (by decide +kernel) fun t _ y => ?_
  blk_simp
  rw [after0_7]
  simp only [outsAt0]
  rw [blk0, blk1, blk2, blk3, blk4, blk5, blk6]
  refine (out_any c t _ _ _ _ _ _ _ y).trans ?_
  have e := place t y
  exact placed _ _ _ (gb t) (gg t) (y 1) (y 2) _ e.1 e.2.1 e.2.2

end Cert.KernelIdeal.Attn

end
-- ==== Proof.RefTerm.lean ====
/- The reference's result in named stages: windows, masks and relative offsets as words, then the projected parts,
   the scores of the window and of the context, their softmax, and the gated output. -/
module

public import proofs.«01_k».proof.Proof.Gen.ReferenceIdeal.Run
public import Idealize.ShloMosaic.Lib.Pointwise

@[expose] public section

set_option maxRecDepth 16384

noncomputable section

namespace Cert.ReferenceIdeal.Attn

open Cert.ReferenceIdeal Cert.ReferenceIdeal.Gen Idealize.ShloMosaic Idealize.ShloMosaic.TcCoe Idealize.SL.Sem

/-- The first row of every grid row's window. -/
def rowStart : IVec S64 32 :=
  minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32))))

/-- The rows of every grid row's window. -/
def bandRow : IVec S64x8 32 :=
  addi (broadcastInDim S64x8 ![0, 1] bcast_S64x1_S64x8_0_1 (broadcastInDim S64x1 ![0] bcast_S64_S64x1_0 rowStart)) (broadcastInDim S64x8 ![0, 1] bcast_S1x8_S64x8_0_1 (broadcastInDim S1x8 ![1] bcast_S8_S1x8_1 (iotaInDim S8 32 0)))

/-- The first column of every grid column's window. -/
def colStart : IVec S64 32 :=
  minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32))))

/-- Whether a key column lies in a query column's window. -/
def colMask : IVec S64x64 1 :=
  andi (cmpi .sge (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 colStart))) (cmpi .slt (broadcastInDim S64x64 ![0, 1] bcast_S1x64_S64x64_0_1 (broadcastInDim S1x64 ![1] bcast_S64_S1x64_1 (iotaInDim S64 32 0))) (broadcastInDim S64x64 ![0, 1] bcast_S64x1_S64x64_0_1 (addi (broadcastInDim S64x1 ![0] bcast_S64_S64x1_0 colStart) (broadcastInDim S64x1 ![] bcast_S_S64x1 (constantI S_ 32 16#32)))))

/-- The row of the bias table, of a grid row and a row of its window. -/
def rowOff : IVec S64x8 32 :=
  subi (addi (subi bandRow (broadcastInDim S64x8 ![0, 1] bcast_S64x1_S64x8_0_1 (broadcastInDim S64x1 ![0] bcast_S64_S64x1_0 (iotaInDim S64 32 0)))) (broadcastInDim S64x8 ![] bcast_S_S64x8 (constantI S_ 32 8#32))) (broadcastInDim S64x8 ![] bcast_S_S64x8 (constantI S_ 32 1#32))

/-- The column of the bias table, of a query column and a key column. -/
def colOff : IVec S64x64 32 :=
  minsi (broadcastInDim S64x64 ![] bcast_S_S64x64 (id (constantI S_ 32 30#32))) (maxsi (broadcastInDim S64x64 ![] bcast_S_S64x64 (id (constantI S_ 32 0#32))) (subi (addi (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))) (broadcastInDim S64x64 ![] bcast_S_S64x64 (constantI S_ 32 16#32))) (broadcastInDim S64x64 ![] bcast_S_S64x64 (constantI S_ 32 1#32))))

/-- The window's column mask, for a query column and a key of the window. -/
def mask : IVec S64x512 1 :=
  shapeCast S64x512 (broadcastInDim S64x8x64 ![0, 1, 2] bcast_S64x1x64_S64x8x64_0_1_2 (broadcastInDim S64x1x64 ![0, 2] bcast_S64x64_S64x1x64_0_2 colMask)) shapeCasts_S64x8x64_S64x512

/-- The bias table's columns spread over query and key columns. -/
def biasCols (X2 : FVec Ideal S1x16x15x31 .f32) : FVec Ideal S16x15x64x64 .f32 :=
  Host.gather gather_S16x15x31_S64x64x1_S16x15x64x64_01_2_n_n_2_2_16151 (shapeCast S16x15x31 X2 shapeCasts_S1x16x15x31_S16x15x31) (broadcastInDim S64x64x1 ![0, 1] bcast_S64x64_S64x64x1_0_1 colOff)

/-- … and its rows over grid rows and their windows. -/
def biasAll (X2 : FVec Ideal S1x16x15x31 .f32) : FVec Ideal S16x64x8x64x64 .f32 :=
  Host.gather gather_S16x15x64x64_S64x8x1_S16x64x8x64x64_034_1_n_n_1_2_1616464 (biasCols X2) (broadcastInDim S64x8x1 ![0, 1] bcast_S64x8_S64x8x1_0_1 rowOff)

/-- The bias of every grid row, head, query column and key of the window. -/
def bias (X2 : FVec Ideal S1x16x15x31 .f32) : FVec Ideal S64x16x64x512 .f32 :=
  shapeCast S64x16x64x512 (transpose S64x16x64x8x64 [1, 0, 3, 2, 4] (biasAll X2) transposes_S16x64x8x64x64_S64x16x64x8x64_1_0_3_2_4) shapeCasts_S64x16x64x8x64_S64x16x64x512

/-- log 2. -/
def ln2 : FVec Ideal S_ .f32 := Host.log (constant S_ .f32 0x40000000#32)

/-- The queries. -/
def Q (X0 : FVec Ideal S8x4096x10752 .bf16) : FVec Ideal S8x64x64x16x64 .f32 :=
  shapeCast S8x64x64x16x64 (extf .f32 (extractStridedSlice S8x4096x1024 ![0, 0, 3072] X0 slices_S8x4096x10752_S8x4096x1024_0_0_3072) bitsLt_bf16_f32) shapeCasts_S8x4096x1024_S8x64x64x16x64

/-- The keys, times log 2. -/
def K (X0 : FVec Ideal S8x4096x10752 .bf16) : FVec Ideal S8x64x64x16x64 .f32 :=
  shapeCast S8x64x64x16x64 (mulf (extf .f32 (extractStridedSlice S8x4096x1024 ![0, 0, 4096] X0 slices_S8x4096x10752_S8x4096x1024_0_0_4096) bitsLt_bf16_f32) (broadcastInDim S8x4096x1024 ![] bcast_S_S8x4096x1024 ln2)) shapeCasts_S8x4096x1024_S8x64x64x16x64

/-- The values. -/
def V (X0 : FVec Ideal S8x4096x10752 .bf16) : FVec Ideal S8x64x64x16x64 .f32 :=
  shapeCast S8x64x64x16x64 (extf .f32 (extractStridedSlice S8x4096x1024 ![0, 0, 5120] X0 slices_S8x4096x10752_S8x4096x1024_0_0_5120) bitsLt_bf16_f32) shapeCasts_S8x4096x1024_S8x64x64x16x64

/-- The gate's input. -/
def Z (X0 : FVec Ideal S8x4096x10752 .bf16) : FVec Ideal S8x4096x1024 .f32 :=
  extf .f32 (extractStridedSlice S8x4096x1024 ![0, 0, 6144] X0 slices_S8x4096x10752_S8x4096x1024_0_0_6144) bitsLt_bf16_f32

/-- The context's keys, times log 2. -/
def KC (X1 : FVec Ideal S8x256x10752 .bf16) : FVec Ideal S8x256x16x64 .f32 :=
  shapeCast S8x256x16x64 (mulf (extf .f32 (extractStridedSlice S8x256x1024 ![0, 0, 4096] X1 slices_S8x256x10752_S8x256x1024_0_0_4096) bitsLt_bf16_f32) (broadcastInDim S8x256x1024 ![] bcast_S_S8x256x1024 ln2)) shapeCasts_S8x256x1024_S8x256x16x64

/-- The context's values. -/
def VC (X1 : FVec Ideal S8x256x10752 .bf16) : FVec Ideal S8x256x16x64 .f32 :=
  shapeCast S8x256x16x64 (extf .f32 (extractStridedSlice S8x256x1024 ![0, 0, 5120] X1 slices_S8x256x10752_S8x256x1024_0_0_5120) bitsLt_bf16_f32) shapeCasts_S8x256x1024_S8x256x16x64

/-- A part's rows taken window by window. -/
def takeRows (X : FVec Ideal S8x64x64x16x64 .f32) : FVec Ideal S8x64x8x64x16x64 .f32 :=
  Host.gather gather_S8x64x64x16x64_S64x8x1_S8x64x8x64x16x64_0345_1_n_n_1_2_81641664 X (broadcastInDim S64x8x1 ![0, 1] bcast_S64x8_S64x8x1_0_1 bandRow)

/-- … the window's keys in one axis. -/
def band (X : FVec Ideal S8x64x64x16x64 .f32) : FVec Ideal S8x64x512x16x64 .f32 :=
  shapeCast S8x64x512x16x64 (takeRows X) shapeCasts_S8x64x8x64x16x64_S8x64x512x16x64

/-- The window's scores. -/
def scoreBand (X0 : FVec Ideal S8x4096x10752 .bf16) (X2 : FVec Ideal S1x16x15x31 .f32) : FVec Ideal S8x64x16x64x512 .f32 :=
  select (broadcastInDim S8x64x16x64x512 ![3, 4] bcast_S64x512_S8x64x16x64x512_3_4 mask) (addf (mulf (Host.dotGeneral (F := Ideal) (φ₁ := .f32) (φ₂ := .f32) dot_S8x64x64x16x64_S8x64x512x16x64_S8x64x16x64x512_4_4_2_2_013_013 none (Q X0) (band (K X0))) (broadcastInDim S8x64x16x64x512 ![] bcast_S_S8x64x16x64x512 (constant S_ .f32 0x3E000000#32))) (broadcastInDim S8x64x16x64x512 ![0, 1, 2, 3, 4] bcast_S1x64x16x64x512_S8x64x16x64x512_0_1_2_3_4 (broadcastInDim S1x64x16x64x512 ![1, 2, 3, 4] bcast_S64x16x64x512_S1x64x16x64x512_1_2_3_4 (bias X2)))) (broadcastInDim S8x64x16x64x512 ![] bcast_S_S8x64x16x64x512 (id (constant (F := Ideal) S_ .f32 0xFF800000#32)))

/-- The context's scores. -/
def scoreCtx (X0 : FVec Ideal S8x4096x10752 .bf16) (X1 : FVec Ideal S8x256x10752 .bf16) : FVec Ideal S8x64x16x64x256 .f32 :=
  mulf (transpose S8x64x16x64x256 [0, 3, 1, 4, 2] (Host.dotGeneral (F := Ideal) (φ₁ := .f32) (φ₂ := .f32) dot_S8x256x16x64_S8x64x64x16x64_S8x16x256x64x64_3_4_1_12_02_03 none (KC X1) (Q X0)) transposes_S8x16x256x64x64_S8x64x16x64x256_0_3_1_4_2) (broadcastInDim S8x64x16x64x256 ![] bcast_S_S8x64x16x64x256 (constant S_ .f32 0x3E000000#32))

/-- The scores of one softmax. -/
def scores (A : FVec Ideal S8x64x16x64x512 .f32) (B : FVec Ideal S8x64x16x64x256 .f32) : FVec Ideal S8x64x16x64x768 .f32 :=
  concatenate S8x64x16x64x768 4 [⟨S8x64x16x64x512, A⟩, ⟨S8x64x16x64x256, B⟩] concatenates_S8x64x16x64x512_S8x64x16x64x256_S8x64x16x64x768_d4

/-- The row's greatest score. -/
def rowMax (S : FVec Ideal S8x64x16x64x768 .f32) : FVec Ideal S8x64x16x64 .f32 :=
  maximumf (broadcastInDim S8x64x16x64 ![] bcast_S_S8x64x16x64 (constant S_ .f32 0xFF800000#32)) (Host.reduce FloatOps.maximumf S (constant (F := Ideal) S_ .f32 0xFF800000#32) reducesTo_S8x64x16x64x768_S8x64x16x64_d4 h_S_)

/-- The exponentials. -/
def expo (S : FVec Ideal S8x64x16x64x768 .f32) : FVec Ideal S8x64x16x64x768 .f32 :=
  Host.exp (subf S (broadcastInDim S8x64x16x64x768 ![0, 1, 2, 3, 4] bcast_S8x64x16x64x1_S8x64x16x64x768_0_1_2_3_4 (broadcastInDim S8x64x16x64x1 ![0, 1, 2, 3] bcast_S8x64x16x64_S8x64x16x64x1_0_1_2_3 (rowMax S))))

/-- The softmax. -/
def soft (S : FVec Ideal S8x64x16x64x768 .f32) : FVec Ideal S8x64x16x64x768 .f32 :=
  Host.divf (expo S) (broadcastInDim S8x64x16x64x768 ![0, 1, 2, 3, 4] bcast_S8x64x16x64x1_S8x64x16x64x768_0_1_2_3_4 (broadcastInDim S8x64x16x64x1 ![0, 1, 2, 3] bcast_S8x64x16x64_S8x64x16x64x1_0_1_2_3 (Host.reduceAdd (expo S) (constant S_ .f32 0x00000000#32) reducesTo_S8x64x16x64x768_S8x64x16x64_d4 h_S_)))

/-- The attention's output from the softmax and the values. -/
def mix (X0 : FVec Ideal S8x4096x10752 .bf16) (X1 : FVec Ideal S8x256x10752 .bf16) (P : FVec Ideal S8x64x16x64x768 .f32) : FVec Ideal S8x64x64x16x64 .f32 :=
  addf (transpose S8x64x64x16x64 [0, 1, 4, 2, 3] (Host.dotGeneral (F := Ideal) (φ₁ := .f32) (φ₂ := .f32) dot_S8x64x512x16x64_S8x64x16x64x512_S8x64x16x64x64_2_4_4_3_013_012 none (band (V X0)) (extractStridedSlice S8x64x16x64x512 ![0, 0, 0, 0, 0] P slices_S8x64x16x64x768_S8x64x16x64x512_0_0_0_0_0)) transposes_S8x64x16x64x64_S8x64x64x16x64_0_1_4_2_3)
    (transpose S8x64x64x16x64 [0, 3, 4, 1, 2] (Host.dotGeneral (F := Ideal) (φ₁ := .f32) (φ₂ := .f32) dot_S8x256x16x64_S8x64x16x64x256_S8x16x64x64x64_1_4_3_13_02_02 none (VC X1) (extractStridedSlice S8x64x16x64x256 ![0, 0, 0, 0, 512] P slices_S8x64x16x64x768_S8x64x16x64x256_0_0_0_0_512)) transposes_S8x16x64x64x64_S8x64x64x16x64_0_3_4_1_2)

/-- The gate. -/
def gate (X0 : FVec Ideal S8x4096x10752 .bf16) : FVec Ideal S8x4096x1024 .f32 :=
  mulf (Z X0) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (Z X0)))))

/-- The reference's result. -/
def out (X0 : FVec Ideal S8x4096x10752 .bf16) (X1 : FVec Ideal S8x256x10752 .bf16) (X2 : FVec Ideal S1x16x15x31 .f32) : FVec Ideal S8x4096x1024 .bf16 :=
  truncf .bf16 (mulf (shapeCast S8x4096x1024 (mix X0 X1 (soft (scores (scoreBand X0 X2) (scoreCtx X0 X1)))) shapeCasts_S8x64x64x16x64_S8x4096x1024) (gate X0)) bitsLt_bf16_f32

set_option maxHeartbeats 1600000 in
/-- The run's result is that term of the arguments. -/
theorem res_eq (m : (ℓ : Loc nD τ sig) → Buf (Elt Ideal) ℓ) (c : Dev nD) :
    Value.res_out0 m c = out (m ((c.tc : Thread nD τ).loc main_arg0)) (m ((c.tc : Thread nD τ).loc main_arg1)) (m ((c.tc : Thread nD τ).loc main_arg2)) := by
  rfl

end Cert.ReferenceIdeal.Attn

end
-- ==== Proof.RefRead.lean ====
/- The reference's stages at an index: words first (windows, masks, offsets in the bias table), then the gathers. -/
module

public import proofs.«01_k».proof.Proof.RefTerm

@[expose] public section

set_option maxRecDepth 16384

noncomputable section

namespace Cert.ReferenceIdeal.Attn

open Cert.ReferenceIdeal Cert.ReferenceIdeal.Gen Idealize.ShloMosaic Idealize.ShloMosaic.TcCoe Idealize.SL.Sem

/-- The first row of row `i`'s window. -/
def rs (i : Nat) : Nat := min 56 (i - 4)

/-- The first column of column `c`'s window. -/
def cs (c : Nat) : Nat := min 48 (c - 8)

theorem rs_le (i : Nat) : rs i ≤ 56 := Nat.min_le_left _ _

/-- Whether key column `k` lies in column `c`'s window. -/
def inWin (c k : Nat) : Prop := cs c ≤ k ∧ k < cs c + 16

instance (c k : Nat) : Decidable (inWin c k) := inferInstanceAs (Decidable (_ ∧ _))

/-- The bias table's row of grid row `i` and window row `a`. -/
def di (i a : Nat) : Nat := rs i + a + 7 - i

/-- The bias table's column of query column `c` and key column `k`. -/
def dj (c k : Nat) : Nat := min 30 (k + 15 - c)

theorem di_lt {i a : Nat} (hi : i < 64) (ha : a < 8) : di i a < 15 := by
  unfold di rs; omega

theorem dj_lt (c k : Nat) : dj c k < 31 := by
  unfold dj; omega

theorem bandRow_word : ∀ (i : Fin 64) (a : Fin 8), (bandRow (ix2 i a)).toInt.toNat = rs i.val + a.val := by
  decide +kernel

theorem rowOff_word : ∀ (i : Fin 64) (a : Fin 8), (rowOff (ix2 i a)).toInt.toNat = di i.val a.val := by
  decide +kernel

theorem colOff_word : ∀ (i : Fin 64) (a : Fin 64), (colOff (ix2 i a)).toInt.toNat = dj i.val a.val := by
  decide +kernel

theorem colMask_word : ∀ (i : Fin 64) (a : Fin 64), colMask (ix2 i a) = if inWin i.val a.val then 1#1 else 0#1 := by
  decide +kernel

/-- A window's rows, read at an index. -/
theorem takeRows_apply (X : FVec Ideal S8x64x64x16x64 .f32) (b : Fin 8) (i : Fin 64) (a : Fin 8) (c : Fin 64) (h : Fin 16) (d : Fin 64) :
    takeRows X (ix6 b i a c h d) = X (ix5 b ⟨rs i.val + a.val, by have := rs_le i.val; omega⟩ c h d) := by
  unfold takeRows Host.gather
  congr 1
  funext x
  refine Fin.ext ?_
  show GatherDims.start _ _ _ x + GatherDims.batchCoord _ _ x + GatherDims.offCoord _ _ x = _
  rw [GatherDims.batchCoord_eq_zero _ _ _ List.not_mem_nil]
  have hx : x = 0 ∨ x = 1 ∨ x = 2 ∨ x = 3 ∨ x = 4 := by
    match x with
    | ⟨0, _⟩ => simp
    | ⟨1, _⟩ => simp
    | ⟨2, _⟩ => simp
    | ⟨3, _⟩ => simp
    | ⟨4, _⟩ => simp
  have off : ∀ x : Fin 5, x ≠ 1 → GatherDims.start gather_S8x64x64x16x64_S64x8x1_S8x64x8x64x16x64_0345_1_n_n_1_2_81641664 (ix6 b i a c h d) (broadcastInDim S64x8x1 ![0, 1] bcast_S64x8_S64x8x1_0_1 bandRow) x = 0 := by
    intro x hx
    unfold GatherDims.start
    rw [dif_neg (by simpa [gather_S8x64x64x16x64_S64x8x1_S8x64x8x64x16x64_0345_1_n_n_1_2_81641664] using hx)]
  rcases hx with rfl | rfl | rfl | rfl | rfl
  · rw [off 0 (by decide)]
    unfold GatherDims.offCoord
    rw [dif_pos (by decide)]
    simp only [Nat.zero_add]
    rfl
  · rw [GatherDims.offCoord_eq_zero _ _ _ (fun h => ((GatherDims.mem_sKept _ _).mp h).1 (List.mem_singleton.mpr rfl))]
    unfold GatherDims.start
    rw [dif_pos (by decide)]
    have hw := bandRow_word i a
    have : ∀ y, y = bandRow (ix2 i a) → min y.toInt.toNat (64 - 1) + 0 + 0 = rs i.val + a.val := by
      intro y hy
      have := rs_le i.val
      rw [hy, hw]; omega
    refine this _ ?_
    unfold broadcastInDim
    congr 1
    funext z
    match z with
    | ⟨0, _⟩ => rfl
    | ⟨1, _⟩ => rfl
  all_goals
    rw [off _ (by decide)]
    unfold GatherDims.offCoord
    rw [dif_pos (by decide)]
    simp only [Nat.zero_add]
    rfl

end Cert.ReferenceIdeal.Attn

end
-- ==== Proof.RefBias.lean ====
/- The bias table's gathers at an index: its columns by the distance of query and key columns, its rows by the
   distance of the grid row and the window's row. -/
module

public import proofs.«01_k».proof.Proof.RefRead

@[expose] public section

set_option maxRecDepth 16384

noncomputable section

namespace Cert.ReferenceIdeal.Attn

open Cert.ReferenceIdeal Cert.ReferenceIdeal.Gen Idealize.ShloMosaic Idealize.ShloMosaic.TcCoe Idealize.SL.Sem

/-- The table's columns, read at an index. -/
theorem biasCols_apply (X2 : FVec Ideal S1x16x15x31 .f32) (h : Fin 16) (r : Fin 15) (q k : Fin 64) :
    biasCols X2 (ix4 h r q k) = shapeCast S16x15x31 X2 shapeCasts_S1x16x15x31_S16x15x31 (ix3 h r ⟨dj q.val k.val, dj_lt _ _⟩) := by
  rw [show biasCols X2 (ix4 h r q k) = Host.gather gather_S16x15x31_S64x64x1_S16x15x64x64_01_2_n_n_2_2_16151 (shapeCast S16x15x31 X2 shapeCasts_S1x16x15x31_S16x15x31) (broadcastInDim S64x64x1 ![0, 1] bcast_S64x64_S64x64x1_0_1 colOff) (ix4 h r q k) from rfl]
  unfold Host.gather
  congr 1
  funext x
  refine Fin.ext ?_
  show GatherDims.start _ _ _ x + GatherDims.batchCoord _ _ x + GatherDims.offCoord _ _ x = _
  rw [GatherDims.batchCoord_eq_zero _ _ _ List.not_mem_nil]
  have hx : x = 0 ∨ x = 1 ∨ x = 2 := by
    match x with
    | ⟨0, _⟩ => simp
    | ⟨1, _⟩ => simp
    | ⟨2, _⟩ => simp
  have off : ∀ x : Fin 3, x ≠ 2 → GatherDims.start gather_S16x15x31_S64x64x1_S16x15x64x64_01_2_n_n_2_2_16151 (ix4 h r q k) (broadcastInDim S64x64x1 ![0, 1] bcast_S64x64_S64x64x1_0_1 colOff) x = 0 := by
    intro x hx
    unfold GatherDims.start
    rw [dif_neg (by simpa [gather_S16x15x31_S64x64x1_S16x15x64x64_01_2_n_n_2_2_16151] using hx)]
  rcases hx with rfl | rfl | rfl
  · rw [off 0 (by decide)]
    unfold GatherDims.offCoord
    rw [dif_pos (by decide)]
    simp only [Nat.zero_add]
    rfl
  · rw [off 1 (by decide)]
    unfold GatherDims.offCoord
    rw [dif_pos (by decide)]
    simp only [Nat.zero_add]
    rfl
  · rw [GatherDims.offCoord_eq_zero _ _ _ (fun h => ((GatherDims.mem_sKept _ _).mp h).1 (List.mem_singleton.mpr rfl))]
    unfold GatherDims.start
    rw [dif_pos (by decide)]
    have hw := colOff_word q k
    have : ∀ y, y = colOff (ix2 q k) → min y.toInt.toNat (31 - 1) + 0 + 0 = dj q.val k.val := by
      intro y hy
      have := dj_lt q.val k.val
      rw [hy, hw]; omega
    refine this _ ?_
    unfold broadcastInDim
    congr 1
    funext z
    match z with
    | ⟨0, _⟩ => rfl
    | ⟨1, _⟩ => rfl

/-- … and its rows. -/
theorem biasAll_apply (X2 : FVec Ideal S1x16x15x31 .f32) (h : Fin 16) (i : Fin 64) (a : Fin 8) (q k : Fin 64) :
    biasAll X2 (ix5 h i a q k) = biasCols X2 (ix4 h ⟨di i.val a.val, di_lt i.isLt a.isLt⟩ q k) := by
  rw [show biasAll X2 (ix5 h i a q k) = Host.gather gather_S16x15x64x64_S64x8x1_S16x64x8x64x64_034_1_n_n_1_2_1616464 (biasCols X2) (broadcastInDim S64x8x1 ![0, 1] bcast_S64x8_S64x8x1_0_1 rowOff) (ix5 h i a q k) from rfl]
  unfold Host.gather
  congr 1
  funext x
  refine Fin.ext ?_
  show GatherDims.start _ _ _ x + GatherDims.batchCoord _ _ x + GatherDims.offCoord _ _ x = _
  rw [GatherDims.batchCoord_eq_zero _ _ _ List.not_mem_nil]
  have hx : x = 0 ∨ x = 1 ∨ x = 2 ∨ x = 3 := by
    match x with
    | ⟨0, _⟩ => simp
    | ⟨1, _⟩ => simp
    | ⟨2, _⟩ => simp
    | ⟨3, _⟩ => simp
  have off : ∀ x : Fin 4, x ≠ 1 → GatherDims.start gather_S16x15x64x64_S64x8x1_S16x64x8x64x64_034_1_n_n_1_2_1616464 (ix5 h i a q k) (broadcastInDim S64x8x1 ![0, 1] bcast_S64x8_S64x8x1_0_1 rowOff) x = 0 := by
    intro x hx
    unfold GatherDims.start
    rw [dif_neg (by simpa [gather_S16x15x64x64_S64x8x1_S16x64x8x64x64_034_1_n_n_1_2_1616464] using hx)]
  rcases hx with rfl | rfl | rfl | rfl
  · rw [off 0 (by decide)]
    unfold GatherDims.offCoord
    rw [dif_pos (by decide)]
    simp only [Nat.zero_add]
    rfl
  · rw [GatherDims.offCoord_eq_zero _ _ _ (fun h => ((GatherDims.mem_sKept _ _).mp h).1 (List.mem_singleton.mpr rfl))]
    unfold GatherDims.start
    rw [dif_pos (by decide)]
    have hw := rowOff_word i a
    have : ∀ y, y = rowOff (ix2 i a) → min y.toInt.toNat (15 - 1) + 0 + 0 = di i.val a.val := by
      intro y hy
      have := di_lt i.isLt a.isLt
      rw [hy, hw]; omega
    refine this _ ?_
    unfold broadcastInDim
    congr 1
    funext z
    match z with
    | ⟨0, _⟩ => rfl
    | ⟨1, _⟩ => rfl
  · rw [off 2 (by decide)]
    unfold GatherDims.offCoord
    rw [dif_pos (by decide)]
    simp only [Nat.zero_add]
    rfl
  · rw [off 3 (by decide)]
    unfold GatherDims.offCoord
    rw [dif_pos (by decide)]
    simp only [Nat.zero_add]
    rfl

end Cert.ReferenceIdeal.Attn

end
-- ==== Proof.RefMax.lean ====
/- The row's greatest score as a supremum. -/
module

public import proofs.«01_k».proof.Proof.RefBias

@[expose] public section

set_option maxRecDepth 16384

noncomputable section

namespace Cert.ReferenceIdeal.Attn

open Cert.ReferenceIdeal Cert.ReferenceIdeal.Gen Idealize.ShloMosaic Idealize.ShloMosaic.TcCoe Idealize.SL.Sem

/-- A host maximum over the last of five axes. -/
theorem hostMax {n0 n1 n2 n3 n4 : Nat} {u : Shape} (v : FVec Ideal ⟨5, ![n0, n1, n2, n3, n4]⟩ .f32) (e : FVec Ideal u .f32)
    (r : (⟨5, ![n0, n1, n2, n3, n4]⟩ : Shape).ReducesTo [4] ⟨4, ![n0, n1, n2, n3]⟩) (hu : 0 < u.numel)
    (b : Fin n0) (i : Fin n1) (h : Fin n2) (c : Fin n3) :
    Host.reduce FloatOps.maximumf v e r hu (ix4 b i h c)
      = Finset.univ.fold max (e (Shape.Idx.first hu)) fun k : Fin n4 => v (ix5 b i h c k) := by
  simp only [pointwise]

/-- … with both of its starting values the least number. -/
theorem hostMax2 {n0 n1 n2 n3 n4 : Nat} (S : FVec Ideal ⟨5, ![n0, n1, n2, n3, n4]⟩ .f32)
    (hb : S_.BroadcastsInDim (⟨4, ![n0, n1, n2, n3]⟩ : Shape) (![] : Fin 0 → Fin 4))
    (r : (⟨5, ![n0, n1, n2, n3, n4]⟩ : Shape).ReducesTo [4] ⟨4, ![n0, n1, n2, n3]⟩) (hu : 0 < S_.numel)
    (b : Fin n0) (i : Fin n1) (h : Fin n2) (c : Fin n3) :
    maximumf (broadcastInDim (⟨4, ![n0, n1, n2, n3]⟩ : Shape) ![] hb (constant (F := Ideal) S_ .f32 0xFF800000#32)) (Host.reduce FloatOps.maximumf S (constant (F := Ideal) S_ .f32 0xFF800000#32) r hu) (ix4 b i h c)
      = Finset.univ.sup fun k : Fin n4 => S (ix5 b i h c k) := by
  have z : Ideal.ofBits .f32 0xFF800000#32 = ⊥ := by simp [Ideal.ofBits, Ideal.ieee]
  have e := hostMax S (constant (F := Ideal) S_ .f32 0xFF800000#32) r hu b i h c
  have g : ∀ x y : EReal, x = ⊥ → max x y = y := fun x y h => by rw [h, max_eq_right bot_le]
  refine (g _ _ z).trans (e.trans ?_)
  exact congrArg (fun b => Finset.univ.fold max b fun k : Fin n4 => S (ix5 _ _ _ _ k)) z

/-- The row's greatest score. -/
theorem rowMax_apply (S : FVec Ideal S8x64x16x64x768 .f32) (b : Fin 8) (i : Fin 64) (h : Fin 16) (c : Fin 64) :
    rowMax S (ix4 b i h c) = Finset.univ.sup fun k : Fin 768 => S (ix5 b i h c k) := by
  delta rowMax
  exact hostMax2 S _ _ _ b i h c

end Cert.ReferenceIdeal.Attn

end
-- ==== Proof.RefVal.lean ====
/- The reference's stages at an index: scores, softmax and gated output as sums over the arguments' entries. -/
module

public import proofs.«01_k».proof.Proof.RefBias
public import proofs.«01_k».proof.Proof.RefMax

@[expose] public section

set_option maxRecDepth 16384

noncomputable section

namespace Cert.ReferenceIdeal.Attn

open Cert.ReferenceIdeal Cert.ReferenceIdeal.Gen Idealize.ShloMosaic Idealize.ShloMosaic.TcCoe Idealize.SL.Sem

variable (X0 : FVec Ideal S8x4096x10752 .bf16) (X1 : FVec Ideal S8x256x10752 .bf16) (X2 : FVec Ideal S1x16x15x31 .f32)

/-- The number log 2. -/
theorem ln2_val : ln2 ix0 = ((Real.log 2 : ℝ) : EReal) := by
  have two : Ideal.ofBits .f32 0x40000000#32 = ((2 : ℝ) : EReal) := by
    simp [Ideal.ofBits, Ideal.ieee]
    rw [← EReal.coe_mul]
    norm_num
  have : ln2 ix0 = Ideal.log (Ideal.ofBits .f32 0x40000000#32) := by pointwise [ln2]
  rw [this, two]
  show (if (2 : ℝ) ≤ 0 then (⊥ : EReal) else ((Real.log 2 : ℝ) : EReal)) = _
  rw [if_neg (by norm_num)]

/-- One eighth. -/
theorem eighth_val : Ideal.ofBits .f32 0x3E000000#32 = ((1 / 8 : ℝ) : EReal) := by
  simp [Ideal.ofBits, Ideal.ieee]
  rw [← EReal.coe_mul]
  norm_num

theorem neg_inf : Ideal.ofBits .f32 0xFF800000#32 = ⊥ := by simp [Ideal.ofBits, Ideal.ieee]

/-- A part's entry, of a query row and a lane. -/
def at0 (o : ℕ) (ho : o + 1024 ≤ 10752) (b : Fin 8) (p : Fin 4096) (h : Fin 16) (x : Fin 64) : EReal :=
  X0 (ix3 b p ⟨o + (h.val * 64 + x.val), by omega⟩)

/-- A context part's entry. -/
def at1 (o : ℕ) (ho : o + 1024 ≤ 10752) (b : Fin 8) (p : Fin 256) (h : Fin 16) (x : Fin 64) : EReal :=
  X1 (ix3 b p ⟨o + (h.val * 64 + x.val), by omega⟩)

/-- The row of the grid a window's key lies at. -/
def wrow (i : Fin 64) (n : Fin 512) : Fin 4096 := ⟨rs i.val * 64 + n.val, by have := rs_le i.val; omega⟩

theorem Q_apply (b : Fin 8) (i c : Fin 64) (h : Fin 16) (d : Fin 64) :
    Q X0 (ix5 b i c h d) = at0 X0 3072 (by omega) b ⟨i.val * 64 + c.val, by omega⟩ h d := by
  unfold Q
  pointwise
  rfl

theorem K_apply (b : Fin 8) (i c : Fin 64) (h : Fin 16) (d : Fin 64) :
    K X0 (ix5 b i c h d) = at0 X0 4096 (by omega) b ⟨i.val * 64 + c.val, by omega⟩ h d * ((Real.log 2 : ℝ) : EReal) := by
  rw [← ln2_val]
  unfold K
  pointwise
  rfl

theorem V_apply (b : Fin 8) (i c : Fin 64) (h : Fin 16) (d : Fin 64) :
    V X0 (ix5 b i c h d) = at0 X0 5120 (by omega) b ⟨i.val * 64 + c.val, by omega⟩ h d := by
  unfold V
  pointwise
  rfl

theorem KC_apply (b : Fin 8) (l : Fin 256) (h : Fin 16) (d : Fin 64) :
    KC X1 (ix4 b l h d) = at1 X1 4096 (by omega) b l h d * ((Real.log 2 : ℝ) : EReal) := by
  rw [← ln2_val]
  unfold KC
  pointwise
  rfl

theorem VC_apply (b : Fin 8) (l : Fin 256) (h : Fin 16) (d : Fin 64) :
    VC X1 (ix4 b l h d) = at1 X1 5120 (by omega) b l h d := by
  unfold VC
  pointwise
  rfl

theorem bias_apply (i : Fin 64) (h : Fin 16) (q : Fin 64) (n : Fin 512) :
    bias X2 (ix4 i h q n) = X2 (ix4 0 h ⟨di i.val (n.val / 64), di_lt i.isLt (by omega)⟩ ⟨dj q.val (n.val % 64), dj_lt _ _⟩) := by
  unfold bias
  pointwise
  rw [biasAll_apply, biasCols_apply]
  pointwise

theorem mask_apply (q : Fin 64) (n : Fin 512) :
    mask (ix2 q n) = if inWin q.val (n.val % 64) then 1#1 else 0#1 := by
  unfold mask
  pointwise
  rw [colMask_word]

theorem band_apply (X : FVec Ideal S8x64x64x16x64 .f32) (b : Fin 8) (i : Fin 64) (n : Fin 512) (h : Fin 16) (d : Fin 64) :
    band X (ix5 b i n h d) = X (ix5 b ⟨rs i.val + n.val / 64, by have := rs_le i.val; omega⟩ ⟨n.val % 64, by omega⟩ h d) := by
  unfold band
  pointwise
  rw [takeRows_apply]

theorem wrow_eq (i : Fin 64) (n : Fin 512) (h : (rs i.val + n.val / 64) * 64 + n.val % 64 < 4096) :
    (⟨(rs i.val + n.val / 64) * 64 + n.val % 64, h⟩ : Fin 4096) = wrow i n :=
  Fin.ext (by show (rs i.val + n.val / 64) * 64 + n.val % 64 = rs i.val * 64 + n.val; omega)

/-- A window score. -/
def sb (b : Fin 8) (i : Fin 64) (h : Fin 16) (c : Fin 64) (n : Fin 512) : EReal :=
  if inWin c.val (n.val % 64) then
    (∑ x, at0 X0 3072 (by omega) b ⟨i.val * 64 + c.val, by omega⟩ h x * (at0 X0 4096 (by omega) b (wrow i n) h x * ((Real.log 2 : ℝ) : EReal))) * ((1 / 8 : ℝ) : EReal)
      + X2 (ix4 0 h ⟨di i.val (n.val / 64), di_lt i.isLt (by omega)⟩ ⟨dj c.val (n.val % 64), dj_lt _ _⟩)
  else ⊥

/-- A context score. -/
def sc (b : Fin 8) (i : Fin 64) (h : Fin 16) (c : Fin 64) (l : Fin 256) : EReal :=
  (∑ x, at0 X0 3072 (by omega) b ⟨i.val * 64 + c.val, by omega⟩ h x * (at1 X1 4096 (by omega) b l h x * ((Real.log 2 : ℝ) : EReal))) * ((1 / 8 : ℝ) : EReal)

theorem scoreBand_apply (b : Fin 8) (i : Fin 64) (h : Fin 16) (c : Fin 64) (n : Fin 512) :
    scoreBand X0 X2 (ix5 b i h c n) = sb X0 X2 b i h c n := by
  unfold scoreBand
  pointwise
  rw [mask_apply, bias_apply, eighth_val]
  simp only [Q_apply, band_apply, K_apply, wrow_eq]
  unfold sb
  split
  · rfl
  · exact neg_inf

theorem scoreCtx_apply (b : Fin 8) (i : Fin 64) (h : Fin 16) (c : Fin 64) (l : Fin 256) :
    scoreCtx X0 X1 (ix5 b i h c l) = sc X0 X1 b i h c l := by
  unfold scoreCtx
  pointwise
  rw [eighth_val]
  simp only [Q_apply, KC_apply]
  unfold sc
  simp only [mul_comm]

/-- All scores of a row. -/
def sall (b : Fin 8) (i : Fin 64) (h : Fin 16) (c : Fin 64) (n : Fin 768) : EReal :=
  if hn : n.val < 512 then sb X0 X2 b i h c ⟨n.val, hn⟩ else sc X0 X1 b i h c ⟨n.val - 512, by omega⟩

theorem scores_apply (b : Fin 8) (i : Fin 64) (h : Fin 16) (c : Fin 64) (n : Fin 768) :
    scores (scoreBand X0 X2) (scoreCtx X0 X1) (ix5 b i h c n) = sall X0 X1 X2 b i h c n := by
  unfold scores
  pointwise
  unfold sall
  split
  · rw [scoreBand_apply]
  · rw [scoreCtx_apply]

theorem soft_apply (S : FVec Ideal S8x64x16x64x768 .f32) (b : Fin 8) (i : Fin 64) (h : Fin 16) (c : Fin 64) (l : Fin 768) :
    soft S (ix5 b i h c l) = Ideal.div (Ideal.exp (S (ix5 b i h c l) - Finset.univ.sup fun k : Fin 768 => S (ix5 b i h c k)))
      (∑ x : Fin 768, Ideal.exp (S (ix5 b i h c x) - Finset.univ.sup fun k : Fin 768 => S (ix5 b i h c k))) := by
  rw [← rowMax_apply]
  unfold soft
  pointwise [expo]

/-- One row's mean with softmax weights. -/
def mean (s : Fin 768 → EReal) (v : Fin 512 → EReal) (w : Fin 256 → EReal) : EReal :=
  ∑ n : Fin 512, v n * Ideal.div (Ideal.exp (s ⟨n.val, by omega⟩ - Finset.univ.sup s)) (∑ x : Fin 768, Ideal.exp (s x - Finset.univ.sup s))
    + ∑ n : Fin 256, w n * Ideal.div (Ideal.exp (s ⟨512 + n.val, by omega⟩ - Finset.univ.sup s)) (∑ x : Fin 768, Ideal.exp (s x - Finset.univ.sup s))

theorem mix_apply (b : Fin 8) (i : Fin 64) (h : Fin 16) (c : Fin 64) (d : Fin 64) :
    mix X0 X1 (soft (scores (scoreBand X0 X2) (scoreCtx X0 X1))) (ix5 b i c h d)
      = mean (sall X0 X1 X2 b i h c) (fun n => at0 X0 5120 (by omega) b (wrow i n) h d) (fun l => at1 X1 5120 (by omega) b l h d) := by
  unfold mix
  pointwise
  simp only [band_apply, V_apply, VC_apply, wrow_eq, soft_apply, scores_apply]
  rfl

theorem out_apply (b : Fin 8) (p : Fin 4096) (e : Fin 1024) :
    out X0 X1 X2 (ix3 b p e)
      = mean (sall X0 X1 X2 b ⟨p.val / 64, by omega⟩ ⟨e.val / 64, by omega⟩ ⟨p.val % 64, by omega⟩)
          (fun n => at0 X0 5120 (by omega) b (wrow ⟨p.val / 64, by omega⟩ n) ⟨e.val / 64, by omega⟩ ⟨e.val % 64, by omega⟩)
          (fun l => at1 X1 5120 (by omega) b l ⟨e.val / 64, by omega⟩ ⟨e.val % 64, by omega⟩)
        * (X0 (ix3 b p ⟨6144 + e.val, by omega⟩) * Ideal.div 1 (1 + Ideal.exp (-X0 (ix3 b p ⟨6144 + e.val, by omega⟩)))) := by
  unfold out
  pointwise [gate, Z]
  rw [mix_apply]

end Cert.ReferenceIdeal.Attn

end
-- ==== Proof.Finite.lean ====
/- The precondition: its stated facts, and the finiteness it gives of queries, keys, context keys and biases. -/
module

public import proofs.«01_k».proof.Defs
public import proofs.«01_k».proof.Proof.RefVal
public import Idealize.ShloMosaic.Lib.ReduceAll
public import Idealize.ShloMosaic.Lib.Pointwise

@[expose] public section

set_option maxRecDepth 16384

noncomputable section

namespace Cert.Finite

open Cert.Pre_finite Idealize.ShloMosaic Idealize.ShloMosaic.TcCoe
open Cert.ReferenceIdeal.Attn (at0 at1)

/-- The shape relations the precondition states. -/
theorem facts : Cert.Pre_finite.Facts := by
  constructor <;> decide

/-- A comparison that says the absolute value is below ⊤ says the number is real. -/
theorem real_of (x : EReal) (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  refine ⟨?_, ?_⟩ <;> rintro rfl <;> simp [Ideal.cmp] at h

/-- The finiteness the equality needs: queries, keys, context keys and biases. -/
structure Real4 (X0 : FVec Ideal S8x4096x10752 .bf16) (X1 : FVec Ideal S8x256x10752 .bf16) (X2 : FVec Ideal S1x16x15x31 .f32) : Prop where
  q : ∀ b p h d, at0 X0 3072 (by omega) b p h d ≠ ⊤ ∧ at0 X0 3072 (by omega) b p h d ≠ ⊥
  k : ∀ b p h d, at0 X0 4096 (by omega) b p h d ≠ ⊤ ∧ at0 X0 4096 (by omega) b p h d ≠ ⊥
  c : ∀ b p h d, at1 X1 4096 (by omega) b p h d ≠ ⊤ ∧ at1 X1 4096 (by omega) b p h d ≠ ⊥
  z : ∀ y, X2 y ≠ ⊤ ∧ X2 y ≠ ⊥

instance : Subsingleton S_.Idx := ⟨fun a b => funext fun x => x.elim0⟩

/-- What the precondition says. -/
theorem of_pre [Cert.Pre_finite.Facts] (X0 : FVec Ideal S8x4096x10752 .bf16) (X1 : FVec Ideal S8x256x10752 .bf16) (X2 : FVec Ideal S1x16x15x31 .f32)
    (h : Cert.Pre_finite.fn (F := Ideal) X0 X1 X2 = fun _ => 1#1) : Real4 X0 X1 X2 := by
  have h0 := congrFun h ix0
  unfold Cert.Pre_finite.fn at h0
  obtain ⟨h01, h2⟩ := IntOp.andi_eq_one.1 h0
  obtain ⟨h0, h1⟩ := IntOp.andi_eq_one.1 h01
  have a0 := Host.reduce_andi_all _ _ _ _ _ h0
  have a1 := Host.reduce_andi_all _ _ _ _ _ h1
  have a2 := Host.reduce_andi_all _ _ _ _ _ h2
  have b0 : ∀ (b : Fin 8) (p : Fin 4096) (x : Fin 2048), X0 (ix3 b p ⟨3072 + x.val, by omega⟩) ≠ ⊤ ∧ X0 (ix3 b p ⟨3072 + x.val, by omega⟩) ≠ ⊥ := by
    intro b p x
    have := a0 (ix3 b p x)
    refine real_of _ ?_
    pointwise at this
    exact this
  have b1 : ∀ (b : Fin 8) (p : Fin 256) (x : Fin 1024), X1 (ix3 b p ⟨4096 + x.val, by omega⟩) ≠ ⊤ ∧ X1 (ix3 b p ⟨4096 + x.val, by omega⟩) ≠ ⊥ := by
    intro b p x
    have := a1 (ix3 b p x)
    refine real_of _ ?_
    pointwise at this
    exact this
  refine ⟨fun b p h d => ?_, fun b p h d => ?_, fun b p h d => ?_, fun y => ?_⟩
  · exact b0 b p ⟨h.val * 64 + d.val, by omega⟩
  · have := b0 b p ⟨1024 + (h.val * 64 + d.val), by omega⟩
    have e : ∀ hh, (⟨3072 + (1024 + (h.val * 64 + d.val)), hh⟩ : Fin 10752) = ⟨4096 + (h.val * 64 + d.val), by omega⟩ := fun _ => Fin.ext (by show 3072 + (1024 + (h.val * 64 + d.val)) = 4096 + (h.val * 64 + d.val); omega)
    simp only [e] at this
    exact this
  · exact b1 b p ⟨h.val * 64 + d.val, by omega⟩
  · exact real_of _ (a2 y)

end Cert.Finite

end
-- ==== Proof.Softmax.lean ====
/- The arithmetic of one query row, over extended reals: a softmax taken in base two over scores multiplied by 1/log 2,
   divided after the product with the values, is the softmax in base e divided before it. -/
module

public import Idealize.ShloMosaic.PureOps.Ideal
public import Idealize.ShloMosaic.Lib.Pointwise

@[expose] public section

set_option maxRecDepth 16384

noncomputable section

namespace Cert.Softmax

open Idealize.ShloMosaic

/-- The reciprocal of log 2. -/
def L : ℝ := (Real.log 2)⁻¹

theorem log2_pos : 0 < Real.log 2 := Real.log_pos (by norm_num)

theorem L_pos : 0 < L := inv_pos.mpr log2_pos

theorem log2_mul_L : Real.log 2 * L = 1 := mul_inv_cancel₀ log2_pos.ne'

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The two exponentials agree: 2 to the power L·(s − m) is e to the power s − m. -/
theorem exp2_sub {S s : EReal} {M m : ℝ} (hS : S = (L : EReal) * s) (hs : s ≠ ⊤) (hM : M = L * m) :
    Ideal.exp2 (S - (M : EReal)) = Ideal.exp (s - (m : EReal)) := by
  subst hS hM
  induction s with
  | top => exact absurd rfl hs
  | bot =>
    rw [EReal.coe_mul_bot_of_pos L_pos, EReal.bot_sub, EReal.bot_sub]; rfl
  | coe r =>
    rw [← EReal.coe_mul, ← EReal.coe_sub, ← EReal.coe_sub]
    show ((Real.rpow 2 (L * r - L * m) : ℝ) : EReal) = (Real.exp (r - m) : EReal)
    congr 1
    show (2 : ℝ) ^ (L * r - L * m) = _
    rw [Real.rpow_def_of_pos (by norm_num), ← mul_sub, ← mul_assoc, log2_mul_L, one_mul]

/-- The exponential of a number below ⊤ is a nonnegative real. -/
theorem exp_real {x : EReal} (h : x ≠ ⊤) : ∃ r : ℝ, 0 ≤ r ∧ Ideal.exp x = (r : EReal) := by
  induction x with
  | top => exact absurd rfl h
  | bot => exact ⟨0, le_refl _, rfl⟩
  | coe r => exact ⟨Real.exp r, (Real.exp_pos r).le, rfl⟩

theorem sub_ne_top {s : EReal} (hs : s ≠ ⊤) (m : ℝ) : s - (m : EReal) ≠ ⊤ := by
  induction s with
  | top => exact absurd rfl hs
  | bot => rw [EReal.bot_sub]; exact bot_ne_top
  | coe r => rw [← EReal.coe_sub]; exact EReal.coe_ne_top _

/-- The row: two groups of keys in one softmax, the second with real scores. -/
theorem row {ι κ : Type*} [Fintype ι] [Fintype κ] [Nonempty κ] (S s V : ι → EReal) (T t W : κ → EReal)
    (hS : ∀ n, S n = (L : EReal) * s n) (hs : ∀ n, s n ≠ ⊤) (hT : ∀ l, T l = (L : EReal) * t l)
    (ht : ∀ l, t l ≠ ⊤) (ht' : ∀ l, t l ≠ ⊥) (M m : ℝ) (hM : M = L * m) :
    Ideal.div (∑ n, Ideal.exp2 (S n - (M : EReal)) * V n + ∑ l, Ideal.exp2 (T l - (M : EReal)) * W l)
        (∑ n, Ideal.exp2 (S n - (M : EReal)) + ∑ l, Ideal.exp2 (T l - (M : EReal)))
      = ∑ n, Ideal.div (Ideal.exp (s n - (m : EReal)))
            (∑ n, Ideal.exp (s n - (m : EReal)) + ∑ l, Ideal.exp (t l - (m : EReal))) * V n
        + ∑ l, Ideal.div (Ideal.exp (t l - (m : EReal)))
            (∑ n, Ideal.exp (s n - (m : EReal)) + ∑ l, Ideal.exp (t l - (m : EReal))) * W l := by
  simp only [fun n => exp2_sub (hS n) (hs n) hM, fun l => exp2_sub (hT l) (ht l) hM]
  choose p hp0 hp using fun n => exp_real (sub_ne_top (hs n) m)
  choose q hq0 hq using fun l => exp_real (sub_ne_top (ht l) m)
  have hqpos : ∀ l, 0 < q l := by
    intro l
    have h := hq l
    obtain ⟨r, hr⟩ : ∃ r : ℝ, t l = (r : EReal) := ⟨(t l).toReal, (EReal.coe_toReal (ht l) (ht' l)).symm⟩
    rw [hr, ← EReal.coe_sub] at h
    have h' : ((Real.exp (r - m) : ℝ) : EReal) = (q l : EReal) := h
    rw [← EReal.coe_injective h']
    exact Real.exp_pos _
  simp only [hp, hq, ← coe_sum, ← EReal.coe_add]
  set D : ℝ := ∑ n, p n + ∑ l, q l with hD
  have hDpos : 0 < D := by
    have h1 : 0 ≤ ∑ n, p n := Finset.sum_nonneg fun n _ => hp0 n
    have h2 : 0 < ∑ l, q l := Finset.sum_pos (fun l _ => hqpos l) Finset.univ_nonempty
    exact add_pos_of_nonneg_of_pos h1 h2
  simp only [Ideal.div_coe hDpos.ne']
  have hc : (0 : ℝ) ≤ 1 / D := by positivity
  rw [EReal.right_distrib_of_nonneg_of_ne_top (by exact_mod_cast hc) (EReal.coe_ne_top _), sum_mul_coe _ _ _ hc,
    sum_mul_coe _ _ _ hc]
  simp only [mul_right_comm]

/-- A fold of max from ⊥ is the supremum. -/
theorem fold_sup {ι : Type*} (s : Finset ι) (f : ι → EReal) : s.fold max ⊥ f = s.sup f := rfl

/-- Scaling by L commutes with the supremum. -/
theorem sup_L {ι : Type*} (s : Finset ι) (f : ι → EReal) : s.sup (fun i => (L : EReal) * f i) = (L : EReal) * s.sup f := by
  have hmono : Monotone fun x : EReal => (L : EReal) * x := fun a b h =>
    mul_le_mul_of_nonneg_left h (by exact_mod_cast L_pos.le)
  have := Finset.comp_sup_eq_sup_comp_of_is_total (s := s) (f := f) (fun x : EReal => (L : EReal) * x) hmono
    (EReal.coe_mul_bot_of_pos L_pos)
  exact this.symm

theorem L_max (a b : EReal) : max ((L : EReal) * a) ((L : EReal) * b) = (L : EReal) * max a b := by
  have hmono : Monotone fun x : EReal => (L : EReal) * x := fun a b h =>
    mul_le_mul_of_nonneg_left h (by exact_mod_cast L_pos.le)
  exact (hmono.map_max).symm

/-- The supremum of finitely many numbers below ⊤, one of them real, is real. -/
theorem sup_real {ι : Type*} (s : Finset ι) (f : ι → EReal) (h : ∀ i ∈ s, f i ≠ ⊤) (j : ι) (hj : j ∈ s) (hj' : f j ≠ ⊥) :
    ∃ r : ℝ, s.sup f = (r : EReal) := by
  have h1 : s.sup f ≠ ⊤ := by
    have : s.sup f < ⊤ := (Finset.sup_lt_iff bot_lt_top).mpr fun i hi => lt_top_iff_ne_top.mpr (h i hi)
    exact this.ne
  have h2 : s.sup f ≠ ⊥ := by
    have : f j ≤ s.sup f := Finset.le_sup hj
    intro h0
    rw [h0] at this
    exact hj' (le_bot_iff.mp this)
  exact ⟨_, (EReal.coe_toReal h1 h2).symm⟩

/-- The sum over a group of four heads with all but one head's lanes zeroed is that head's sum. -/
theorem head_sum (h : Fin 4) (f : Fin 256 → EReal) (hf : ∀ l : Fin 256, (l : ℕ) / 64 ≠ (h : ℕ) → f l = 0) :
    ∑ l, f l = ∑ d : Fin 64, f ⟨(h : ℕ) * 64 + (d : ℕ), by omega⟩ := by
  rw [Fin.sum_univ_tiles 4 64 rfl f]
  rw [Finset.sum_eq_single h]
  · intro b _ hb
    refine Finset.sum_eq_zero fun d _ => hf _ ?_
    have : (b : ℕ) ≠ (h : ℕ) := fun e => hb (Fin.ext e)
    show ((b : ℕ) * 64 + (d : ℕ)) / 64 ≠ _
    omega
  · intro hn; exact absurd (Finset.mem_univ _) hn

/-- One score: the query scaled by 1/8 first against the key, is L times the key times log 2, scaled by 1/8 last. -/
theorem score {ι : Type*} [Fintype ι] (q k : ι → EReal) (hq : ∀ d, q d ≠ ⊤ ∧ q d ≠ ⊥) (hk : ∀ d, k d ≠ ⊤ ∧ k d ≠ ⊥) :
    ∃ r : ℝ, (∑ d, q d * ((1 / 8 : ℝ) : EReal) * k d = ((L * r : ℝ) : EReal))
      ∧ (∑ d, q d * (k d * ((Real.log 2 : ℝ) : EReal))) * ((1 / 8 : ℝ) : EReal) = (r : EReal) := by
  lift q to ι → ℝ using hq
  lift k to ι → ℝ using hk
  refine ⟨(∑ d, q d * (k d * Real.log 2)) * (1 / 8), ?_, ?_⟩
  · simp only [← EReal.coe_mul, ← coe_sum]
    congr 1
    rw [← mul_assoc, Finset.mul_sum, Finset.sum_mul]
    refine Finset.sum_congr rfl fun d _ => ?_
    have := log2_mul_L
    linear_combination (-(q d * k d * (1 / 8))) * this
  · simp only [← EReal.coe_mul, ← coe_sum]

end Cert.Softmax

end
-- ==== Proof.Equal.lean ====
/- The kernel's entry and the reference's entry are one number. -/
module

public import proofs.«01_k».proof.Proof.KArr
public import proofs.«01_k».proof.Proof.Finite
public import proofs.«01_k».proof.Proof.Softmax

@[expose] public section

set_option maxRecDepth 16384

noncomputable section

namespace Cert.Equal

open Idealize.ShloMosaic Idealize.ShloMosaic.TcCoe Cert.Softmax
open Cert.KernelIdeal.Attn (e8 lk qz scB scC top blk part cpart tpart rsk csk djk res)
open Cert.ReferenceIdeal.Attn (at0 at1 wrow sb sc sall rs cs di dj inWin)
open Cert.Finite (Real4)
open Cert.KernelIdeal (S8x4096x10752 S8x256x10752 S1x16x15x31)

/-- A sum over all keys of a row: those of the window, then those of the context. -/
theorem sum768 (f : Fin 768 → EReal) :
    ∑ x, f x = ∑ n : Fin 512, f ⟨n.val, by omega⟩ + ∑ n : Fin 256, f ⟨512 + n.val, by omega⟩ :=
  Fin.sum_univ_add (a := 512) (b := 256) f

/-- A supremum over all keys of a row. -/
theorem sup768 (f : Fin 768 → EReal) :
    Finset.univ.sup f = max (Finset.univ.sup fun n : Fin 512 => f ⟨n.val, by omega⟩) (Finset.univ.sup fun n : Fin 256 => f ⟨512 + n.val, by omega⟩) := by
  refine le_antisymm (Finset.sup_le fun x _ => ?_) (max_le (Finset.sup_le fun n _ => ?_) (Finset.sup_le fun n _ => ?_))
  · by_cases h : x.val < 512
    · exact le_max_of_le_left (Finset.le_sup (f := fun n : Fin 512 => f ⟨n.val, by omega⟩) (Finset.mem_univ ⟨x.val, h⟩))
    · refine le_max_of_le_right ?_
      have e : f x = (fun n : Fin 256 => f ⟨512 + n.val, by omega⟩) ⟨x.val - 512, by omega⟩ :=
        congrArg f (Fin.ext (by show x.val = 512 + (x.val - 512); omega))
      rw [e]
      exact Finset.le_sup (f := fun n : Fin 256 => f ⟨512 + n.val, by omega⟩) (Finset.mem_univ _)
  · exact Finset.le_sup (f := f) (Finset.mem_univ _)
  · exact Finset.le_sup (f := f) (Finset.mem_univ _)

/-- The two softmax means agree when the kernel's scores are the reference's, over log 2. -/
theorem means (S : Fin 512 → EReal) (T : Fin 256 → EReal) (s : Fin 768 → EReal) (v : Fin 512 → EReal) (w : Fin 256 → EReal)
    (hS : ∀ n, S n = (L : EReal) * s ⟨n.val, by omega⟩) (hT : ∀ n, T n = (L : EReal) * s ⟨512 + n.val, by omega⟩)
    (hs : ∀ n, s n ≠ ⊤) (ht : ∀ n : Fin 256, s ⟨512 + n.val, by omega⟩ ≠ ⊥) :
    Cert.KernelIdeal.Attn.mean S T v w = Cert.ReferenceIdeal.Attn.mean s v w := by
  obtain ⟨m, hm⟩ := sup_real Finset.univ s (fun i _ => hs i) ⟨512 + (0 : Fin 256).val, by decide⟩ (Finset.mem_univ _) (ht 0)
  have hM : top S T = ((L * m : ℝ) : EReal) := by
    have eS : S = fun n : Fin 512 => (L : EReal) * s ⟨n.val, by omega⟩ := funext hS
    have eT : T = fun n : Fin 256 => (L : EReal) * s ⟨512 + n.val, by omega⟩ := funext hT
    unfold top
    rw [eS, eT, sup_L Finset.univ (fun n : Fin 512 => s ⟨n.val, by omega⟩), sup_L Finset.univ (fun n : Fin 256 => s ⟨512 + n.val, by omega⟩), L_max, ← sup768, hm, EReal.coe_mul]
  have e := row S (fun n : Fin 512 => s ⟨n.val, by omega⟩) v T (fun n : Fin 256 => s ⟨512 + n.val, by omega⟩) w hS (fun n => hs _) hT (fun n => hs _) ht (L * m) m rfl
  unfold Cert.KernelIdeal.Attn.mean Cert.ReferenceIdeal.Attn.mean
  rw [hM, hm, e, sum768]
  simp only [mul_comm]

theorem e8_val : e8 = ((1 / 8 : ℝ) : EReal) := by
  unfold e8
  simp [Ideal.ofBits, Ideal.ieee]
  rw [← EReal.coe_mul]
  norm_num

theorem lk_val : lk = (L : EReal) :=
  IdealRules.named_const.ideal_named_scalar _ _ _ _ rfl

/-- One score: the kernel's masked sum over a head group's lanes, and the reference's over the head's. -/
theorem dots (h : Fin 4) (q k : Fin 256 → EReal) (hq : ∀ d : Fin 64, q ⟨h.val * 64 + d.val, by omega⟩ ≠ ⊤ ∧ q ⟨h.val * 64 + d.val, by omega⟩ ≠ ⊥)
    (hk : ∀ d : Fin 64, k ⟨h.val * 64 + d.val, by omega⟩ ≠ ⊤ ∧ k ⟨h.val * 64 + d.val, by omega⟩ ≠ ⊥) :
    ∃ r : ℝ, (∑ x, qz h.val q x * k x = ((L * r : ℝ) : EReal))
      ∧ (∑ d : Fin 64, q ⟨h.val * 64 + d.val, by omega⟩ * (k ⟨h.val * 64 + d.val, by omega⟩ * ((Real.log 2 : ℝ) : EReal))) * ((1 / 8 : ℝ) : EReal) = (r : EReal) := by
  obtain ⟨r, h1, h2⟩ := score (fun d : Fin 64 => q ⟨h.val * 64 + d.val, by omega⟩) (fun d : Fin 64 => k ⟨h.val * 64 + d.val, by omega⟩) hq hk
  refine ⟨r, ?_, h2⟩
  rw [← h1, head_sum h (fun x => qz h.val q x * k x) (fun l hl => by show qz h.val q l * k l = 0; unfold qz; rw [if_neg hl, zero_mul])]
  refine Finset.sum_congr rfl fun d _ => ?_
  have hd : (h.val * 64 + d.val) / 64 = h.val := by omega
  show qz h.val q ⟨h.val * 64 + d.val, _⟩ * _ = _
  unfold qz
  rw [if_pos hd, e8_val]

/-- A window score, inside the column's window or outside. -/
theorem scoreB (h : Fin 4) (q k : Fin 256 → EReal) (P : Prop) [Decidable P] (b : EReal) (hb : b ≠ ⊤ ∧ b ≠ ⊥)
    (hq : ∀ d : Fin 64, q ⟨h.val * 64 + d.val, by omega⟩ ≠ ⊤ ∧ q ⟨h.val * 64 + d.val, by omega⟩ ≠ ⊥)
    (hk : ∀ d : Fin 64, k ⟨h.val * 64 + d.val, by omega⟩ ≠ ⊤ ∧ k ⟨h.val * 64 + d.val, by omega⟩ ≠ ⊥) :
    (∑ x, qz h.val q x * k x + (if P then b else ⊥) * lk
      = (L : EReal) * (if P then (∑ d : Fin 64, q ⟨h.val * 64 + d.val, by omega⟩ * (k ⟨h.val * 64 + d.val, by omega⟩ * ((Real.log 2 : ℝ) : EReal))) * ((1 / 8 : ℝ) : EReal) + b else ⊥))
    ∧ (if P then (∑ d : Fin 64, q ⟨h.val * 64 + d.val, by omega⟩ * (k ⟨h.val * 64 + d.val, by omega⟩ * ((Real.log 2 : ℝ) : EReal))) * ((1 / 8 : ℝ) : EReal) + b else ⊥) ≠ ⊤ := by
  obtain ⟨r, h1, h2⟩ := dots h q k hq hk
  obtain ⟨β, rfl⟩ : ∃ β : ℝ, b = (β : EReal) := ⟨b.toReal, (EReal.coe_toReal hb.1 hb.2).symm⟩
  rw [h1, h2, lk_val]
  by_cases hP : P
  · simp only [if_pos hP]
    refine ⟨?_, by rw [← EReal.coe_add]; exact EReal.coe_ne_top _⟩
    rw [← EReal.coe_mul, ← EReal.coe_add, ← EReal.coe_add, ← EReal.coe_mul]
    congr 1
    ring
  · simp only [if_neg hP]
    refine ⟨?_, bot_ne_top⟩
    rw [EReal.bot_mul_coe_of_pos L_pos, EReal.coe_mul_bot_of_pos L_pos, EReal.add_bot]

variable (X0 : FVec Ideal S8x4096x10752 .bf16) (X1 : FVec Ideal S8x256x10752 .bf16) (X2 : FVec Ideal S1x16x15x31 .f32)

/-- The head of a group. -/
def hd (g h : Fin 4) : Fin 16 := ⟨g.val * 4 + h.val, by omega⟩

/-- A lane of a head in its group. -/
def ln (h : Fin 4) (d : Fin 64) : Fin 256 := ⟨h.val * 64 + d.val, by omega⟩

theorem part_at (o : ℕ) (ho : o + 1024 ≤ 10752) (b : Fin 8) (g h : Fin 4) (p : Fin 4096) (d : Fin 64) :
    part X0 o ho b g (ix3 0 p (ln h d)) = at0 X0 o ho b p (hd g h) d := by
  show X0 (ix3 b p ⟨o + 256 * g.val + (h.val * 64 + d.val), _⟩) = X0 (ix3 b p ⟨o + ((g.val * 4 + h.val) * 64 + d.val), _⟩)
  congr 2
  exact Fin.ext (by show o + 256 * g.val + (h.val * 64 + d.val) = o + ((g.val * 4 + h.val) * 64 + d.val); omega)

theorem cpart_at (o : ℕ) (ho : o + 1024 ≤ 10752) (b : Fin 8) (g h : Fin 4) (p : Fin 256) (d : Fin 64) :
    cpart X1 o ho b g (ix3 0 p (ln h d)) = at1 X1 o ho b p (hd g h) d := by
  show X1 (ix3 b p ⟨o + 256 * g.val + (h.val * 64 + d.val), _⟩) = X1 (ix3 b p ⟨o + ((g.val * 4 + h.val) * 64 + d.val), _⟩)
  congr 2
  exact Fin.ext (by show o + 256 * g.val + (h.val * 64 + d.val) = o + ((g.val * 4 + h.val) * 64 + d.val); omega)

theorem wrow_k (i : Fin 64) (n : Fin 512) (h : 64 * rsk i.val + n.val < 4096) : (⟨64 * rsk i.val + n.val, h⟩ : Fin 4096) = wrow i n :=
  Fin.ext (by show 64 * rsk i.val + n.val = rsk i.val * 64 + n.val; omega)

/-- The bias table's entry the kernel reads. -/
theorem bias_at (g h : Fin 4) (i c : Fin 64) (n : Fin 512) (hi : i.val - rsk i.val < 8) :
    tpart (Cert.KernelIdeal.Attn.tab (Cert.KernelIdeal.Attn.masked X2)) g (ix5 0 h ⟨i.val - rsk i.val, hi⟩ c n)
      = if inWin c.val (n.val % 64) then X2 (ix4 0 (hd g h) ⟨di i.val (n.val / 64), Cert.ReferenceIdeal.Attn.di_lt i.isLt (by omega)⟩ ⟨dj c.val (n.val % 64), Cert.ReferenceIdeal.Attn.dj_lt _ _⟩) else ⊥ := by
  refine (Cert.KernelIdeal.Attn.bias_tab X2 g h ⟨i.val - rsk i.val, hi⟩ c n).trans ?_
  have e : ∀ h', (⟨7 - (i.val - rsk i.val) + n.val / 64, h'⟩ : Fin 15) = ⟨di i.val (n.val / 64), Cert.ReferenceIdeal.Attn.di_lt i.isLt (by omega)⟩ := fun _ => Fin.ext (by
    show 7 - (i.val - rsk i.val) + n.val / 64 = rs i.val + n.val / 64 + 7 - i.val
    unfold rsk rs
    omega)
  simp only [e]
  rfl

/-- The kernel's entry is the reference's. -/
theorem entry (H : Real4 X0 X1 X2) (b : Fin 8) (g h : Fin 4) (i c d : Fin 64) :
    res X0 X1 (Cert.KernelIdeal.Attn.tab (Cert.KernelIdeal.Attn.masked X2)) b g ⟨i.val * 64 + c.val, by omega⟩ (ln h d)
      = Cert.ReferenceIdeal.Attn.mean (sall X0 X1 X2 b i (hd g h) c) (fun n => at0 X0 5120 (by omega) b (wrow i n) (hd g h) d) (fun l => at1 X1 5120 (by omega) b l (hd g h) d)
        * (at0 X0 6144 (by omega) b ⟨i.val * 64 + c.val, by omega⟩ (hd g h) d * Ideal.div 1 (1 + Ideal.exp (-at0 X0 6144 (by omega) b ⟨i.val * 64 + c.val, by omega⟩ (hd g h) d))) := by
  have e1 : (ln h d).val / 64 = h.val := by show (h.val * 64 + d.val) / 64 = h.val; omega
  have e2 : (i.val * 64 + c.val) / 64 = i.val := by omega
  have e3 : (i.val * 64 + c.val) % 64 = c.val := by omega
  unfold res blk
  simp only [e1, e2, e3, wrow_k, part_at, cpart_at, Fin.eta]
  congr 1
  have lo : ∀ n : Fin 512, sall X0 X1 X2 b i (hd g h) c ⟨n.val, by omega⟩ = sb X0 X2 b i (hd g h) c n := fun n => by
    unfold sall; rw [dif_pos n.isLt]
  have hi : ∀ n : Fin 256, sall X0 X1 X2 b i (hd g h) c ⟨512 + n.val, by omega⟩ = sc X0 X1 b i (hd g h) c n := fun n => by
    unfold sall
    rw [dif_neg (by show ¬ 512 + n.val < 512; omega)]
    congr 1
    exact Fin.ext (by show 512 + n.val - 512 = n.val; omega)
  have B := fun n : Fin 512 => scoreB h (fun x => part X0 3072 (by omega) b g (ix3 0 ⟨i.val * 64 + c.val, by omega⟩ x)) (fun x => part X0 4096 (by omega) b g (ix3 0 (wrow i n) x))
    (inWin c.val (n.val % 64)) (X2 (ix4 0 (hd g h) ⟨di i.val (n.val / 64), Cert.ReferenceIdeal.Attn.di_lt i.isLt (by omega)⟩ ⟨dj c.val (n.val % 64), Cert.ReferenceIdeal.Attn.dj_lt _ _⟩)) (H.z _)
    (fun d => by have e := part_at X0 3072 (by omega) b g h ⟨i.val * 64 + c.val, by omega⟩ d; have t := H.q b ⟨i.val * 64 + c.val, by omega⟩ (hd g h) d; rw [← e] at t; exact t)
    (fun d => by have e := part_at X0 4096 (by omega) b g h (wrow i n) d; have t := H.k b (wrow i n) (hd g h) d; rw [← e] at t; exact t)
  have C := fun n : Fin 256 => dots h (fun x => part X0 3072 (by omega) b g (ix3 0 ⟨i.val * 64 + c.val, by omega⟩ x)) (fun x => cpart X1 4096 (by omega) b g (ix3 0 n x))
    (fun d => by have e := part_at X0 3072 (by omega) b g h ⟨i.val * 64 + c.val, by omega⟩ d; have t := H.q b ⟨i.val * 64 + c.val, by omega⟩ (hd g h) d; rw [← e] at t; exact t)
    (fun d => by have e := cpart_at X1 4096 (by omega) b g h n d; have t := H.c b n (hd g h) d; rw [← e] at t; exact t)
  have el : ∀ (d : Fin 64) (hh : h.val * 64 + d.val < 256), (⟨h.val * 64 + d.val, hh⟩ : Fin 256) = ln h d := fun _ _ => rfl
  simp only [el, part_at, cpart_at] at B C
  have C' : ∀ n : Fin 256, ∃ r : ℝ, scC h.val (fun x => part X0 3072 (by omega) b g (ix3 0 ⟨i.val * 64 + c.val, by omega⟩ x)) (fun n x => cpart X1 4096 (by omega) b g (ix3 0 n x)) n = ((L * r : ℝ) : EReal)
      ∧ sc X0 X1 b i (hd g h) c n = (r : EReal) := C
  refine means _ _ _ _ _ (fun n => ?_) (fun n => ?_) (fun n => ?_) (fun n => ?_)
  · rw [lo]
    refine Eq.trans ?_ (B n).1
    unfold scB
    beta_reduce
    rw [bias_at]
  · rw [hi]
    obtain ⟨r, h1, h2⟩ := C' n
    rw [h1, h2, EReal.coe_mul]
  · by_cases hn : n.val < 512
    · have := (B ⟨n.val, hn⟩).2
      rw [show n = ⟨(⟨n.val, hn⟩ : Fin 512).val, by omega⟩ from rfl, lo]
      exact this
    · obtain ⟨r, h1, h2⟩ := C' ⟨n.val - 512, by omega⟩
      have e : n = ⟨512 + (⟨n.val - 512, by omega⟩ : Fin 256).val, by show 512 + (n.val - 512) < 768; omega⟩ := Fin.ext (by show n.val = 512 + (n.val - 512); omega)
      rw [e, hi, h2]
      exact EReal.coe_ne_top _
  · rw [hi]
    obtain ⟨r, h1, h2⟩ := C' n
    rw [h2]
    exact EReal.coe_ne_bot _

/-- The arrays are equal. -/
theorem arrays (H : Real4 X0 X1 X2) : Cert.KernelIdeal.Attn.resArr X0 X1 (Cert.KernelIdeal.Attn.tab (Cert.KernelIdeal.Attn.masked X2)) = Cert.ReferenceIdeal.Attn.out X0 X1 X2 := by
  funext y
  obtain ⟨b, p, e, rfl⟩ := Cert.KernelIdeal.Attn.ix3_cases y
  rw [Cert.ReferenceIdeal.Attn.out_apply]
  have E := entry X0 X1 X2 H b ⟨e.val / 256, by omega⟩ ⟨e.val % 256 / 64, by omega⟩ ⟨p.val / 64, by omega⟩ ⟨p.val % 64, by omega⟩ ⟨e.val % 64, by omega⟩
  have a1 : ∀ hh, (⟨p.val / 64 * 64 + p.val % 64, hh⟩ : Fin 4096) = p := fun _ => Fin.ext (by show p.val / 64 * 64 + p.val % 64 = p.val; omega)
  have a2 : ln ⟨e.val % 256 / 64, by omega⟩ ⟨e.val % 64, by omega⟩ = ⟨e.val % 256, by omega⟩ := Fin.ext (by show e.val % 256 / 64 * 64 + e.val % 64 = e.val % 256; omega)
  have a3 : hd ⟨e.val / 256, by omega⟩ ⟨e.val % 256 / 64, by omega⟩ = ⟨e.val / 64, by omega⟩ := Fin.ext (by show e.val / 256 * 4 + e.val % 256 / 64 = e.val / 64; omega)
  have a4 : at0 X0 6144 (by omega) b p ⟨e.val / 64, by omega⟩ ⟨e.val % 64, by omega⟩ = X0 (ix3 b p ⟨6144 + e.val, by omega⟩) :=
    congrArg (fun z => X0 (ix3 b p z)) (Fin.ext (by show 6144 + (e.val / 64 * 64 + e.val % 64) = 6144 + e.val; omega))
  simp only [a1, a2, a3, a4] at E
  exact E

end Cert.Equal

end
-- ==== Proof.ProjDef.lean ====
/- The projected layer norm of a row of tokens, as extended reals: what both the kernel and the reference compute. -/
module

public import Idealize.ShloMosaic.Lib.Pointwise

@[expose] public section

noncomputable section

namespace Cert.Proj

open Idealize.ShloMosaic

/-- A row's mean. -/
def mean (x : Fin 1024 → EReal) : EReal := Ideal.div (∑ d, x d) (Ideal.ofBits .f32 0x44800000#32)

/-- A row's variance. -/
def var (x : Fin 1024 → EReal) : EReal := mean fun d => (x d - mean x) * (x d - mean x)

/-- A row normalized, then modulated. -/
def hid (x sc sh : Fin 1024 → EReal) (d : Fin 1024) : EReal :=
  (x d - mean x) * Ideal.rsqrt (var x + Ideal.ofBits .f32 0x3727C5AC#32) * (1 + sc d) + sh d

end Cert.Proj

end
-- ==== Proof.Proj.lean ====
/- What the projection kernel computes: the hidden block its first point of a row block keeps, and each output block. -/
module

public import proofs.«01_k».proof.Proof.ProjDef
public import proofs.«01_k».proof.Proof.Gen.Kernel2Ideal.Value
public import Idealize.ShloMosaic.Lib.Pointwise
public import Idealize.ShloMosaic.Lib.Pipeline.ValueKit

@[expose] public section

set_option maxRecDepth 16384

noncomputable section

namespace Cert.Kernel2Ideal.Proj

open Cert.Kernel2Ideal Cert.Kernel2Ideal.Gen Idealize.ShloMosaic Idealize.ShloMosaic.TcCoe Idealize.SL.Sem
open Idealize.ShloMosaic.Pipeline (Dat)

/-- The hidden block, entry by entry. -/
theorem pay1_apply (x : Vec Ideal S1x2048x1024 .f32) (sc sh : Vec Ideal S1x1x1024 .f32) (p : Fin 2048) (d : Fin 1024) :
    k0_pay1 x sc sh (ix2 p d)
      = Cert.Proj.hid (fun e => x (ix3 0 p e)) (fun e => sc (ix3 0 0 e)) (fun e => sh (ix3 0 0 e)) d := by
  unfold Cert.Proj.hid Cert.Proj.var Cert.Proj.mean
  pointwise [k0_pay1]

/-- The output block, entry by entry. -/
theorem pay2_apply (h : Vec Ideal S2048x1024 .bf16) (w : Vec Ideal S1024x1536 .bf16) (a : Fin 1) (p : Fin 2048) (j : Fin 1536) :
    k0_pay2 h w (ix3 a p j) = ∑ d : Fin 1024, h (ix2 p d) * w (ix2 d j) := by
  pointwise [k0_pay2]

variable (m : (ℓ : Loc nD τ sig) → Buf (Elt Ideal) ℓ)

/-- What the kept block and the output block are after the first point of a row block. -/
theorem outs_first (c : Dev nD) (t : Fin cfg0.N) (h0 : t.val % 7 = 0) :
    outsAt0 m c t.val t.isLt = (k0_pay2 (k0_pay1 (iblk m c 0 t) (iblk m c 2 t) (iblk m c 1 t)) (iblk m c 3 t),
      k0_pay1 (iblk m c 0 t) (iblk m c 2 t) (iblk m c 1 t)) := by
  rw [outsAt0_A m c t h0]
  refine Prod.ext ?_ ?_
  · dsimp only
    frame_out
  · dsimp only
    frame_out

/-- … and after any other. -/
theorem outs_rest (c : Dev nD) (t : Fin cfg0.N) (h0 : ¬t.val % 7 = 0) :
    outsAt0 m c t.val t.isLt = (k0_pay2 (outsAt0 m c (t.val - 1) (Nat.lt_of_le_of_lt (Nat.sub_le _ _) t.isLt)).2 (iblk m c 3 t),
      (outsAt0 m c (t.val - 1) (Nat.lt_of_le_of_lt (Nat.sub_le _ _) t.isLt)).2) := by
  rw [outsAt0_B m c t h0]
  generalize (outsAt0 m c (t.val - 1) (Nat.lt_of_le_of_lt (Nat.sub_le _ _) t.isLt)).2 = xs
  refine Prod.ext ?_ rfl
  dsimp only
  frame_out
  exact congrArg (fun h => k0_pay2 h (iblk m c 3 t)) (Memref.IsWhole.read_unread _ xs)

theorem idx : ∀ t : Fin cfg0.N,
    win0_0.index t = ![t.val / 14, t.val % 14 / 7, 0]
    ∧ win0_1.index t = ![t.val / 14, 0, 0]
    ∧ win0_2.index t = ![t.val / 14, 0, 1]
    ∧ win0_3.index t = ![0, t.val % 7]
    ∧ win0_4.index t = ![t.val / 14, t.val % 14 / 7, t.val % 7]
    ∧ t.val / 14 < 8 :=
  (by decide +kernel : ∀ t : Fin grid0.N, _)

/-- The tokens of row block `i` of batch `b`. -/
def xpart (X : FVec Ideal S8x4096x1024 .f32) (b i : ℕ) (hb : b < 8) (hi : i < 2) : Vec Ideal S1x2048x1024 .f32 :=
  fun y => X (ix3 ⟨b, hb⟩ ⟨2048 * i + (y 1).val, by have h : (y 1).val < 2048 := (y 1).isLt; omega⟩ (y 2))

/-- The modulation of batch `b` at offset `o`. -/
def mpart (M : FVec Ideal S16x1x3072 .f32) (b o : ℕ) (hb : b < 8) (ho : o + 1024 ≤ 3072) : Vec Ideal S1x1x1024 .f32 :=
  fun y => M (ix3 ⟨b, by omega⟩ 0 ⟨o + (y 2).val, by have h : (y 2).val < 1024 := (y 2).isLt; omega⟩)

/-- The weights' columns of block `j`. -/
def wpart (W : FVec Ideal S1024x10752 .bf16) (j : ℕ) (hj : j < 7) : Vec Ideal S1024x1536 .bf16 :=
  fun y => W (ix2 (y 0) ⟨1536 * j + (y 1).val, by have h : (y 1).val < 1536 := (y 1).isLt; omega⟩)

theorem half (n : ℕ) : n % 14 / 7 < 2 := by omega

theorem blk0 (c : Dev nD) (t : Fin cfg0.N) : iblk m c 0 t
    = xpart (m ((c : Thread nD τ).loc main_arg0)) (t.val / 14) (t.val % 14 / 7) (idx t).2.2.2.2.2 (half _) := by
  funext y
  unfold xpart
  blk_ext [iblk, V, idx t]

theorem blk1 (c : Dev nD) (t : Fin cfg0.N) : iblk m c 1 t
    = mpart (m ((c : Thread nD τ).loc main_arg1)) (t.val / 14) 0 (idx t).2.2.2.2.2 (by omega) := by
  funext y
  unfold mpart
  blk_ext [iblk, V, idx t]

theorem blk2 (c : Dev nD) (t : Fin cfg0.N) : iblk m c 2 t
    = mpart (m ((c : Thread nD τ).loc main_arg1)) (t.val / 14) 1024 (idx t).2.2.2.2.2 (by omega) := by
  funext y
  unfold mpart
  blk_ext [iblk, V, idx t]

theorem blk3 (c : Dev nD) (t : Fin cfg0.N) : iblk m c 3 t
    = wpart (m ((c : Thread nD τ).loc main_arg2)) (t.val % 7) (by omega) := by
  funext y
  unfold wpart
  blk_ext [iblk, V, idx t]

/-- The hidden block of row block `i` of batch `b`. -/
def hblk (X : FVec Ideal S8x4096x1024 .f32) (M : FVec Ideal S16x1x3072 .f32) (b i : ℕ) (hb : b < 8) (hi : i < 2) :
    Vec Ideal S2048x1024 .bf16 :=
  k0_pay1 (xpart X b i hb hi) (mpart M b 1024 hb (by omega)) (mpart M b 0 hb (by omega))

theorem hblk_congr (X : FVec Ideal S8x4096x1024 .f32) (M : FVec Ideal S16x1x3072 .f32) {b i b' i' : ℕ} (hb : b < 8) (hi : i < 2)
    (eb : b' = b) (ei : i' = i) : hblk X M b' i' (eb ▸ hb) (ei ▸ hi) = hblk X M b i hb hi := by
  subst eb ei; rfl

/-- The kept block holds, at every point, the hidden block of the point's row block. -/
theorem kept (c : Dev nD) : ∀ (n : ℕ) (hn : n < cfg0.N), (outsAt0 m c n hn).2
    = hblk (m ((c : Thread nD τ).loc main_arg0)) (m ((c : Thread nD τ).loc main_arg1)) (n / 14) (n % 14 / 7) (idx ⟨n, hn⟩).2.2.2.2.2 (half _) := by
  intro n
  induction n with
  | zero =>
    intro hn
    rw [outs_first m c ⟨0, hn⟩ (Nat.zero_mod _), blk0, blk1, blk2]
    rfl
  | succ n ih =>
    intro hn
    by_cases h0 : (n + 1) % 7 = 0
    · rw [outs_first m c ⟨n + 1, hn⟩ h0, blk0, blk1, blk2]
      rfl
    · rw [outs_rest m c ⟨n + 1, hn⟩ h0]
      exact (ih (Nat.lt_of_succ_lt hn)).trans (hblk_congr _ _ _ _ (by omega) (by omega))

/-- The output block after a point. -/
theorem written (c : Dev nD) (t : Fin cfg0.N) : (outsAt0 m c t.val t.isLt).1
    = k0_pay2 (hblk (m ((c : Thread nD τ).loc main_arg0)) (m ((c : Thread nD τ).loc main_arg1)) (t.val / 14) (t.val % 14 / 7) (idx t).2.2.2.2.2 (half _))
      (wpart (m ((c : Thread nD τ).loc main_arg2)) (t.val % 7) (by omega)) := by
  rw [← kept m c t.val t.isLt, ← blk3 m c t]
  by_cases h0 : t.val % 7 = 0
  · rw [outs_first m c t h0]
  · rw [outs_rest m c t h0]

/-- The result, entry by entry. -/
def res (X : FVec Ideal S8x4096x1024 .f32) (M : FVec Ideal S16x1x3072 .f32) (W : FVec Ideal S1024x10752 .bf16)
    (b : Fin 8) (p : Fin 4096) (j : Fin 10752) : EReal :=
  ∑ d : Fin 1024, Cert.Proj.hid (fun e => X (ix3 b p e)) (fun e => M (ix3 ⟨b.val, by omega⟩ 0 ⟨1024 + e.val, by omega⟩))
    (fun e => M (ix3 ⟨b.val, by omega⟩ 0 ⟨e.val, by omega⟩)) d * W (ix2 d j)

/-- The result as an array. -/
def resArr (X : FVec Ideal S8x4096x1024 .f32) (M : FVec Ideal S16x1x3072 .f32) (W : FVec Ideal S1024x10752 .bf16) :
    FVec Ideal S8x4096x10752 .bf16 :=
  fun y => res X M W (y 0) (y 1) (y 2)

/-- A written block's entry is the result's where the block puts it. -/
theorem block_apply (X : FVec Ideal S8x4096x1024 .f32) (M : FVec Ideal S16x1x3072 .f32) (W : FVec Ideal S1024x10752 .bf16)
    (b i j : ℕ) (hb : b < 8) (hi : i < 2) (hj : j < 7) (y : S1x2048x1536.Idx) (z : S8x4096x10752.Idx)
    (h0 : (z 0).val = b) (h1 : (z 1).val = 2048 * i + (y 1).val) (h2 : (z 2).val = 1536 * j + (y 2).val) :
    k0_pay2 (hblk X M b i hb hi) (wpart W j hj) y = resArr X M W z := by
  obtain ⟨y0, y1, y2, rfl⟩ : ∃ (a : Fin 1) (p : Fin 2048) (l : Fin 1536), y = ix3 a p l := ⟨y 0, y 1, y 2, eq_ix3 y⟩
  have l1 : 2048 * i + y1.val < 4096 := by omega
  have l2 : 1536 * j + y2.val < 10752 := by omega
  obtain ⟨z0, z1, z2, rfl⟩ : ∃ (a : Fin 8) (p : Fin 4096) (l : Fin 10752), z = ix3 a p l := ⟨z 0, z 1, z 2, eq_ix3 z⟩
  obtain rfl : z0 = ⟨b, hb⟩ := Fin.ext h0
  obtain rfl : z1 = ⟨2048 * i + y1.val, l1⟩ := Fin.ext h1
  obtain rfl : z2 = ⟨1536 * j + y2.val, l2⟩ := Fin.ext h2
  refine (pay2_apply _ _ y0 y1 y2).trans ?_
  have e (d : Fin 1024) : hblk X M b i hb hi (ix2 y1 d)
      = Cert.Proj.hid (fun e => X (ix3 ⟨b, hb⟩ ⟨2048 * i + y1.val, l1⟩ e)) (fun e => M (ix3 ⟨b, by omega⟩ 0 ⟨1024 + e.val, by omega⟩))
        (fun e => M (ix3 ⟨b, by omega⟩ 0 ⟨e.val, by omega⟩)) d := by
    unfold hblk
    rw [pay1_apply]
    unfold xpart mpart
    simp only [Nat.zero_add]
    rfl
  simp only [e]
  rfl

/-- Where a written block's entry lies. -/
theorem place (t : Fin cfg0.N) (y : S1x2048x1536.Idx) :
    ((((cfg0.win 4).blk t).view.emb y) 0).val = t.val / 14
    ∧ ((((cfg0.win 4).blk t).view.emb y) 1).val = 2048 * (t.val % 14 / 7) + (y 1).val
    ∧ ((((cfg0.win 4).blk t).view.emb y) 2).val = 1536 * (t.val % 7) + (y 2).val := by
  have hy : (y 0).val < 1 := (y 0).isLt
  refine ⟨?_, ?_, ?_⟩
  · blk_simp [idx t]
    try omega
  · blk_simp [idx t]
    try omega
  · blk_simp [idx t]
    try omega

/-- The result array after the run. -/
theorem final (c : Dev nD) : (dats m 0 c).arrAt 4 cfg0.N
    = resArr (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4, written]
  have e := place t y
  exact block_apply _ _ _ _ _ _ _ _ _ y _ e.1 e.2.1 e.2.2

end Cert.Kernel2Ideal.Proj

end
-- ==== Proof.ProjRef.lean ====
/- What the projection's reference computes, entry by entry. -/
module

public import proofs.«01_k».proof.Proof.ProjDef
public import proofs.«01_k».proof.Proof.Gen.Reference2Ideal.Run
public import Idealize.ShloMosaic.Lib.Pointwise

@[expose] public section

set_option maxRecDepth 16384

noncomputable section

namespace Cert.Reference2Ideal.Proj

open Cert.Reference2Ideal Cert.Reference2Ideal.Gen Idealize.ShloMosaic Idealize.ShloMosaic.TcCoe Idealize.SL.Sem

/-- The rows' means. -/
def means (X : FVec Ideal S8x4096x1024 .f32) : FVec Ideal S8x4096x1 .f32 :=
  Host.divf (broadcastInDim S8x4096x1 ![0, 1] bcast_S8x4096_S8x4096x1_0_1
      (Host.reduceAdd X (constant S_ .f32 0x00000000#32) reducesTo_S8x4096x1024_S8x4096_d2 h_S_))
    (broadcastInDim S8x4096x1 ![] bcast_S_S8x4096x1 (constant S_ .f32 0x44800000#32))

/-- The rows less their means. -/
def cent (X : FVec Ideal S8x4096x1024 .f32) : FVec Ideal S8x4096x1024 .f32 :=
  subf X (broadcastInDim S8x4096x1024 ![0, 1, 2] bcast_S8x4096x1_S8x4096x1024_0_1_2 (means X))

/-- The reciprocal roots of the rows' variances. -/
def roots (X : FVec Ideal S8x4096x1024 .f32) : FVec Ideal S8x4096x1 .f32 :=
  Host.rsqrt (addf (means (mulf (cent X) (cent X))) (broadcastInDim S8x4096x1 ![] bcast_S_S8x4096x1 (constant S_ .f32 0x3727C5AC#32)))

/-- One plus the scale of each batch. -/
def scales (M : FVec Ideal S16x1x3072 .f32) : FVec Ideal S8x1x1024 .f32 :=
  addf (broadcastInDim S8x1x1024 ![] bcast_S_S8x1x1024 (constant S_ .f32 0x3F800000#32))
    (broadcastInDim S8x1x1024 ![0, 2] bcast_S8x1024_S8x1x1024_0_2
      (shapeCast _ (extractStridedSlice S8x1x1024 ![0, 0, 1024] M slices_S16x1x3072_S8x1x1024_0_0_1024) shapeCasts_S8x1x1024_S8x1024))

/-- The shift of each batch. -/
def shifts (M : FVec Ideal S16x1x3072 .f32) : FVec Ideal S8x1x1024 .f32 :=
  broadcastInDim S8x1x1024 ![0, 2] bcast_S8x1024_S8x1x1024_0_2
    (shapeCast _ (extractStridedSlice S8x1x1024 ![0, 0, 0] M slices_S16x1x3072_S8x1x1024_0_0_0) shapeCasts_S8x1x1024_S8x1024)

/-- The modulated rows. -/
def hidden (X : FVec Ideal S8x4096x1024 .f32) (M : FVec Ideal S16x1x3072 .f32) : FVec Ideal S8x4096x1024 .f32 :=
  addf (mulf (mulf (cent X) (broadcastInDim S8x4096x1024 ![0, 1, 2] bcast_S8x4096x1_S8x4096x1024_0_1_2 (roots X)))
      (broadcastInDim S8x4096x1024 ![0, 1, 2] bcast_S8x1x1024_S8x4096x1024_0_1_2 (scales M)))
    (broadcastInDim S8x4096x1024 ![0, 1, 2] bcast_S8x1x1024_S8x4096x1024_0_1_2 (shifts M))

/-- The reference's result. -/
def res (X : FVec Ideal S8x4096x1024 .f32) (M : FVec Ideal S16x1x3072 .f32) (W : FVec Ideal S1024x10752 .bf16) : FVec Ideal S8x4096x10752 .bf16 :=
  truncf .bf16 (Host.dotGeneral dot_S8x4096x1024_S1024x10752_S8x4096x10752_2_0_01_1_n_n none (hidden X M) (extf .f32 W bitsLt_bf16_f32)) bitsLt_bf16_f32

theorem means_apply (X : FVec Ideal S8x4096x1024 .f32) (b : Fin 8) (p : Fin 4096) (a : Fin 1) :
    means X (ix3 b p a) = Cert.Proj.mean fun d => X (ix3 b p d) := by
  unfold Cert.Proj.mean
  pointwise [means]

theorem cent_apply (X : FVec Ideal S8x4096x1024 .f32) (b : Fin 8) (p : Fin 4096) (d : Fin 1024) :
    cent X (ix3 b p d) = X (ix3 b p d) - Cert.Proj.mean fun e => X (ix3 b p e) := by
  pointwise [cent, means_apply]

theorem roots_apply (X : FVec Ideal S8x4096x1024 .f32) (b : Fin 8) (p : Fin 4096) (a : Fin 1) :
    roots X (ix3 b p a) = Ideal.rsqrt (Cert.Proj.var (fun d => X (ix3 b p d)) + Ideal.ofBits .f32 0x3727C5AC#32) := by
  unfold Cert.Proj.var
  pointwise [roots, means_apply, cent_apply]

theorem scales_apply (M : FVec Ideal S16x1x3072 .f32) (b : Fin 8) (a : Fin 1) (d : Fin 1024) :
    scales M (ix3 b a d) = 1 + M (ix3 ⟨b.val, by omega⟩ 0 ⟨1024 + d.val, by omega⟩) := by
  pointwise [scales]

theorem shifts_apply (M : FVec Ideal S16x1x3072 .f32) (b : Fin 8) (a : Fin 1) (d : Fin 1024) :
    shifts M (ix3 b a d) = M (ix3 ⟨b.val, by omega⟩ 0 ⟨d.val, by omega⟩) := by
  pointwise [shifts]

theorem hidden_apply (X : FVec Ideal S8x4096x1024 .f32) (M : FVec Ideal S16x1x3072 .f32) (b : Fin 8) (p : Fin 4096) (d : Fin 1024) :
    hidden X M (ix3 b p d) = Cert.Proj.hid (fun e => X (ix3 b p e)) (fun e => M (ix3 ⟨b.val, by omega⟩ 0 ⟨1024 + e.val, by omega⟩))
      (fun e => M (ix3 ⟨b.val, by omega⟩ 0 ⟨e.val, by omega⟩)) d := by
  unfold Cert.Proj.hid
  pointwise [hidden, cent_apply, roots_apply, scales_apply, shifts_apply]

theorem res_apply (X : FVec Ideal S8x4096x1024 .f32) (M : FVec Ideal S16x1x3072 .f32) (W : FVec Ideal S1024x10752 .bf16)
    (b : Fin 8) (p : Fin 4096) (j : Fin 10752) :
    res X M W (ix3 b p j) = ∑ d : Fin 1024, hidden X M (ix3 b p d) * W (ix2 d j) := by
  pointwise [res]

end Cert.Reference2Ideal.Proj

end
-- ==== Proof.OutDef.lean ====
/- The final stage of a row of tokens, as extended reals: what both the kernel and the reference compute. -/
module

public import proofs.«01_k».proof.Proof.ProjDef

@[expose] public section

noncomputable section

namespace Cert.Out

open Idealize.ShloMosaic

/-- The mean over a lane's head. -/
def hmean (y : Fin 1024 → EReal) (d : Fin 1024) : EReal :=
  Ideal.div (∑ j : Fin 64, y ⟨64 * (d.val / 64) + j.val, by omega⟩) (Ideal.ofBits .f32 0x42800000#32)

/-- The variance over a lane's head. -/
def hvar (y : Fin 1024 → EReal) (d : Fin 1024) : EReal := hmean (fun e => (y e - hmean y e) * (y e - hmean y e)) d

/-- A gate. -/
def sig (x : EReal) : EReal := Ideal.logistic x

/-- The readout: each head normalized, the bonus added, gated. -/
def readout (y bon z g b : Fin 1024 → EReal) (d : Fin 1024) : EReal :=
  ((y d - hmean y d) * Ideal.rsqrt (hvar y d + Ideal.ofBits .f32 0x3A27C5AC#32) * g d + b d + bon d) * (z d * sig (z d))

/-- The merge of both branches under their gates. -/
def merged (ya r ga gb : Fin 1024 → EReal) (wa wb : Fin 1024 → Fin 1024 → EReal) (d : Fin 1024) : EReal :=
  sig (ga d) * (∑ k, ya k * wa k d) + sig (gb d) * ∑ k, r k * wb k d

/-- The gated residual. -/
def total (x gate mg : Fin 1024 → EReal) (wo : Fin 1024 → Fin 1024 → EReal) (d : Fin 1024) : EReal :=
  Ideal.ofBits .f32 0x3F9837F0#32 * x d + gate d * ∑ k, mg k * wo k d

/-- The layer norm after the residual. -/
def post (t g b : Fin 1024 → EReal) (d : Fin 1024) : EReal :=
  (t d - Cert.Proj.mean t) * Ideal.rsqrt (Cert.Proj.var t + Ideal.ofBits .f32 0x3727C5AC#32) * g d + b d

/-- The whole stage. -/
def stage (x ya y bon z ga gb gate gg gs lg ls : Fin 1024 → EReal) (wa wb wo : Fin 1024 → Fin 1024 → EReal) (d : Fin 1024) : EReal :=
  post (total x gate (merged ya (readout y bon z gg gs) ga gb wa wb) wo) lg ls d

end Cert.Out

end
-- ==== Proof.OutMask.lean ====
/- The readout's head mask. -/
module

public import proofs.«01_k».proof.Proof.Gen.Kernel3Ideal.Skeleton
public import Idealize.ShloMosaic.Lib.Pointwise

@[expose] public section

set_option maxRecDepth 16384

noncomputable section

namespace Cert.Kernel3Ideal.Out

open Cert.Kernel3Ideal Cert.Kernel3Ideal.Gen Idealize.ShloMosaic Idealize.ShloMosaic.TcCoe Idealize.SL.Sem

/-- The mask of the lanes that share a head. -/
def ones : FVec Ideal S256x256 .bf16 := k0_pay7 (F := Ideal) k0_pay2 k0_pay3 k0_pay4 k0_pay5 k0_pay6

/-- The head of a lane, as the kernel computes it: a quotient rounded down. -/
def head (n : ℕ) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 n) 64#32) 0#32))
    (IntOp.subi (IntOp.divsi ArithUnit.vector (BitVec.ofNat 32 n) 64#32) 1#32)
    (IntOp.divsi ArithUnit.vector (BitVec.ofNat 32 n) 64#32)

theorem head_eq : ∀ a : Fin 256, head a.val = BitVec.ofNat 32 (a.val / 64) := by decide +kernel

theorem same : ∀ i j : Fin 4, IntOp.cmpi CmpIPredicate.eq (BitVec.ofNat 32 i.val) (BitVec.ofNat 32 j.val) = if i.val = j.val then 1#1 else 0#1 := by
  decide +kernel

/-- An entry of the mask: whether two lanes share a head. -/
theorem ones_apply (a b : Fin 256) : ones (ix2 a b) = if a.val / 64 = b.val / 64 then 1 else 0 := by
  pointwise [ones, k0_pay7, k0_pay2, k0_pay3, k0_pay4, k0_pay5, k0_pay6]
  refine (congrArg₂ (fun x y => Scalar.select (IntOp.cmpi CmpIPredicate.eq x y) (1 : EReal) 0) (head_eq a) (head_eq b)).trans ?_
  beta_reduce
  rw [same ⟨a.val / 64, by omega⟩ ⟨b.val / 64, by omega⟩]
  split <;> rfl

/-- A lane of a block of 256 lanes, taken apart. -/
theorem sum_lanes (f : Fin 256 → EReal) (b : Fin 256) :
    ∑ a : Fin 256, f a * (if a.val / 64 = b.val / 64 then 1 else 0)
      = ∑ j : Fin 64, f ⟨64 * (b.val / 64) + j.val, by omega⟩ := by
  simp only [mul_ite, mul_one, mul_zero]
  rw [← Finset.sum_filter]
  refine (Finset.sum_nbij' (fun j : Fin 64 => (⟨64 * (b.val / 64) + j.val, by omega⟩ : Fin 256))
    (fun a : Fin 256 => (⟨a.val % 64, by omega⟩ : Fin 64)) ?_ ?_ ?_ ?_ ?_).symm
  · intro j _
    simp only [Finset.mem_filter, Finset.mem_univ, true_and]
    omega
  · intro a _
    exact Finset.mem_univ _
  · intro j _
    exact Fin.ext (by show (64 * (b.val / 64) + j.val) % 64 = j.val; omega)
  · intro a h
    simp only [Finset.mem_filter, Finset.mem_univ, true_and] at h
    exact Fin.ext (by show 64 * (b.val / 64) + a.val % 64 = a.val; omega)
  · intro j _
    rfl

end Cert.Kernel3Ideal.Out

end
-- ==== Proof.OutHead.lean ====
/- The readout's sums over heads. -/
module

public import proofs.«01_k».proof.Proof.OutDef
public import proofs.«01_k».proof.Proof.OutMask

@[expose] public section

set_option maxRecDepth 16384

noncomputable section

namespace Cert.Kernel3Ideal.Out

open Cert.Kernel3Ideal Cert.Kernel3Ideal.Gen Idealize.ShloMosaic Idealize.ShloMosaic.TcCoe Idealize.SL.Sem

/-- The four lane groups of a block of rows, one below the other. -/
def stack (X : FVec Ideal S512x1024 .bf16) : FVec Ideal S2048x256 .bf16 :=
  concatenate S2048x256 0 [⟨S512x256, extractStridedSlice S512x256 ![0, 0] X slices_S512x1024_o0_0_S512x256⟩,
    ⟨S512x256, extractStridedSlice S512x256 ![0, 256] X slices_S512x1024_o0_256_S512x256⟩,
    ⟨S512x256, extractStridedSlice S512x256 ![0, 512] X slices_S512x1024_o0_512_S512x256⟩,
    ⟨S512x256, extractStridedSlice S512x256 ![0, 768] X slices_S512x1024_o0_768_S512x256⟩]
    concatenates_S512x256_S512x256_S512x256_S512x256_S2048x256_d0

/-- … times the mask. -/
def prod (X : FVec Ideal S512x1024 .bf16) : FVec Ideal S2048x256 .f32 :=
  matmul dot_S2048x256_S256x256_S2048x256_1_0_0_1_n_n none (stack X) ones (constant S2048x256 .f32 0x00000000#32)

/-- … and side by side again. -/
def hsum (X : FVec Ideal S512x1024 .bf16) : FVec Ideal S512x1024 .f32 :=
  concatenate S512x1024 1 [⟨S512x256, extractStridedSlice S512x256 ![0, 0] (prod X) slices_S2048x256_o0_0_S512x256⟩,
    ⟨S512x256, extractStridedSlice S512x256 ![512, 0] (prod X) slices_S2048x256_o512_0_S512x256⟩,
    ⟨S512x256, extractStridedSlice S512x256 ![1024, 0] (prod X) slices_S2048x256_o1024_0_S512x256⟩,
    ⟨S512x256, extractStridedSlice S512x256 ![1536, 0] (prod X) slices_S2048x256_o1536_0_S512x256⟩]
    concatenates_S512x256_S512x256_S512x256_S512x256_S512x1024_d1

theorem stack_apply (X : FVec Ideal S512x1024 .bf16) (R : Fin 2048) (l : Fin 256) :
    stack X (ix2 R l) = X (ix2 ⟨R.val % 512, by omega⟩ ⟨256 * (R.val / 512) + l.val, by omega⟩) := by
  pointwise [stack]
  split
  · exact congrArg₂ (fun a b => X (ix2 a b)) (Fin.ext (by dsimp only; omega)) (Fin.ext (by dsimp only; omega))
  · split
    · exact congrArg₂ (fun a b => X (ix2 a b)) (Fin.ext (by dsimp only; omega)) (Fin.ext (by dsimp only; omega))
    · split
      · exact congrArg₂ (fun a b => X (ix2 a b)) (Fin.ext (by dsimp only; omega)) (Fin.ext (by dsimp only; omega))
      · exact congrArg₂ (fun a b => X (ix2 a b)) (Fin.ext (by dsimp only; omega)) (Fin.ext (by dsimp only; omega))

theorem prod_apply (X : FVec Ideal S512x1024 .bf16) (R : Fin 2048) (l : Fin 256) :
    prod X (ix2 R l) = ∑ j : Fin 64, X (ix2 ⟨R.val % 512, by omega⟩ ⟨256 * (R.val / 512) + (64 * (l.val / 64) + j.val), by omega⟩) := by
  pointwise [prod, stack_apply, ones_apply]
  exact sum_lanes (fun a => X (ix2 ⟨R.val % 512, by omega⟩ ⟨256 * (R.val / 512) + a.val, by omega⟩)) l

theorem same_sum (X : FVec Ideal S512x1024 .bf16) (p p' : Fin 512) (n n' : ℕ) (hn : ∀ j : Fin 64, n + j.val < 1024)
    (hn' : ∀ j : Fin 64, n' + j.val < 1024) (e : p = p') (e' : n = n') :
    ∑ j : Fin 64, X (ix2 p ⟨n + j.val, hn j⟩) = ∑ j : Fin 64, X (ix2 p' ⟨n' + j.val, hn' j⟩) := by
  subst e e'; rfl

theorem hsum_apply (X : FVec Ideal S512x1024 .bf16) (p : Fin 512) (d : Fin 1024) :
    hsum X (ix2 p d) = ∑ j : Fin 64, X (ix2 p ⟨64 * (d.val / 64) + j.val, by omega⟩) := by
  pointwise [hsum, prod_apply]
  split
  · simp only [← Nat.add_assoc]
    exact same_sum X _ _ _ _ (fun j => by omega) (fun j => by omega) (Fin.ext (by dsimp only; omega)) (by omega)
  · split
    · simp only [← Nat.add_assoc]
      exact same_sum X _ _ _ _ (fun j => by omega) (fun j => by omega) (Fin.ext (by dsimp only; omega)) (by omega)
    · split
      · simp only [← Nat.add_assoc]
        exact same_sum X _ _ _ _ (fun j => by omega) (fun j => by omega) (Fin.ext (by dsimp only; omega)) (by omega)
      · simp only [← Nat.add_assoc]
        exact same_sum X _ _ _ _ (fun j => by omega) (fun j => by omega) (Fin.ext (by dsimp only; omega)) (by omega)

theorem recip (s : EReal) : s * Ideal.ofBits .f32 0x3C800000#32 = Ideal.div s (Ideal.ofBits .f32 0x42800000#32) := by
  have a : Ideal.ofBits .f32 0x3C800000#32 = ((1 / 64 : ℝ) : EReal) := by
    simp [Ideal.ofBits, Ideal.ieee]
    rw [← EReal.coe_mul]
    norm_num
  have b : Ideal.ofBits .f32 0x42800000#32 = ((64 : ℝ) : EReal) := by
    simp [Ideal.ofBits, Ideal.ieee]
    rw [← EReal.coe_mul]
    norm_num
  rw [a, b]
  unfold Ideal.div
  rw [if_neg (by norm_num)]
  congr 1
  rw [← EReal.coe_inv]
  norm_num

end Cert.Kernel3Ideal.Out

end
-- ==== Proof.OutBlk.lean ====
/- What the final stage's kernel computes of one block of rows, entry by entry. -/
module

public import proofs.«01_k».proof.Proof.OutHead

@[expose] public section

set_option maxRecDepth 16384

noncomputable section

namespace Cert.Kernel3Ideal.Out

open Cert.Kernel3Ideal Cert.Kernel3Ideal.Gen Idealize.ShloMosaic Idealize.ShloMosaic.TcCoe Idealize.SL.Sem

/-- Both directions' rows, added. -/
def rows (f b : Vec Ideal S1x512x1024 .bf16) : FVec Ideal S512x1024 .f32 :=
  addf (extf .f32 (shapeCast S512x1024 f shapeCasts_S1x512x1024_S512x1024) bitsLt_bf16_f32)
    (extf .f32 (shapeCast S512x1024 b shapeCasts_S1x512x1024_S512x1024) bitsLt_bf16_f32)

/-- The means over heads. -/
def hm (Y : FVec Ideal S512x1024 .f32) : FVec Ideal S512x1024 .f32 :=
  mulf (hsum (truncf .bf16 Y bitsLt_bf16_f32)) (broadcast S512x1024 (Scalar.ofBits (F := Ideal) .f32 0x3C800000#32))

/-- The rows less their heads' means. -/
def cen (f b : Vec Ideal S1x512x1024 .bf16) : FVec Ideal S512x1024 .f32 := k0_pay8 (F := Ideal) k0_pay2 k0_pay3 k0_pay4 k0_pay5 k0_pay6 f b

/-- The variances over heads. -/
def vrc (f b : Vec Ideal S1x512x1024 .bf16) : FVec Ideal S512x1024 .f32 := k0_pay9 (F := Ideal) k0_pay2 k0_pay3 k0_pay4 k0_pay5 k0_pay6 f b

theorem cen_eq (f b : Vec Ideal S1x512x1024 .bf16) : cen f b = subf (rows f b) (hm (rows f b)) := rfl

theorem vrc_eq (f b : Vec Ideal S1x512x1024 .bf16) : vrc f b = hm (mulf (cen f b) (cen f b)) := rfl

theorem rows_apply (f b : Vec Ideal S1x512x1024 .bf16) (p : Fin 512) (d : Fin 1024) :
    rows f b (ix2 p d) = f (ix3 0 p d) + b (ix3 0 p d) := by
  pointwise [rows]

theorem hm_apply (Y : FVec Ideal S512x1024 .f32) (p : Fin 512) (d : Fin 1024) :
    hm Y (ix2 p d) = Cert.Out.hmean (fun e => Y (ix2 p e)) d := by
  unfold Cert.Out.hmean
  refine Eq.trans ?_ (recip _)
  pointwise [hm, hsum_apply]

theorem cen_apply (f b : Vec Ideal S1x512x1024 .bf16) (p : Fin 512) (d : Fin 1024) :
    cen f b (ix2 p d) = (f (ix3 0 p d) + b (ix3 0 p d)) - Cert.Out.hmean (fun e => f (ix3 0 p e) + b (ix3 0 p e)) d := by
  rw [cen_eq]
  pointwise [rows_apply, hm_apply]

theorem vrc_apply (f b : Vec Ideal S1x512x1024 .bf16) (p : Fin 512) (d : Fin 1024) :
    vrc f b (ix2 p d) = Cert.Out.hvar (fun e => f (ix3 0 p e) + b (ix3 0 p e)) d := by
  rw [vrc_eq]
  unfold Cert.Out.hvar
  pointwise [hm_apply, cen_apply]

theorem pay10_apply (x : Vec Ideal S1x512x1024 .bf16) (w : Vec Ideal S1024x1024 .bf16) (p : Fin 512) (d : Fin 1024) :
    k0_pay10 x w (ix2 p d) = ∑ k : Fin 1024, x (ix3 0 p k) * w (ix2 k d) := by
  pointwise [k0_pay10]

theorem pay11_apply (f b : Vec Ideal S1x512x1024 .bf16) (g s : Vec Ideal S1x1024 .f32) (bf bb z : Vec Ideal S1x512x1024 .bf16)
    (w : Vec Ideal S1024x1024 .bf16) (p : Fin 512) (d : Fin 1024) :
    k0_pay11 (cen f b) (vrc f b) g s bf bb z w (ix2 p d)
      = ∑ k : Fin 1024, Cert.Out.readout (fun e => f (ix3 0 p e) + b (ix3 0 p e)) (fun e => bf (ix3 0 p e) + bb (ix3 0 p e))
          (fun e => z (ix3 0 p e)) (fun e => g (ix2 0 e)) (fun e => s (ix2 0 e)) k * w (ix2 k d) := by
  unfold Cert.Out.readout Cert.Out.sig
  simp only [← add_assoc]
  pointwise [k0_pay11, cen_apply, vrc_apply]

theorem pay13_apply (A B : FVec Ideal S512x1024 .f32) (ga gb : Vec Ideal S1x512x1024 .bf16) (wo : Vec Ideal S1024x1024 .bf16)
    (x : Vec Ideal S1x512x1024 .f32) (gate : Vec Ideal S1x1x1024 .f32) (lg ls : Vec Ideal S1x1024 .f32) (a : Fin 1) (p : Fin 512) (d : Fin 1024) :
    k0_pay1 (k0_pay13 A B (k0_pay12 ga) gb wo x gate lg) ls (ix3 a p d)
      = Cert.Out.post (Cert.Out.total (fun e => x (ix3 0 p e)) (fun e => gate (ix3 0 0 e))
          (fun k => Ideal.logistic (ga (ix3 0 p k)) * A (ix2 p k) + Ideal.logistic (gb (ix3 0 p k)) * B (ix2 p k)) (fun k e => wo (ix2 k e)))
          (fun e => lg (ix2 0 e)) (fun e => ls (ix2 0 e)) d := by
  unfold Cert.Out.post Cert.Proj.var Cert.Proj.mean Cert.Out.total
  pointwise [k0_pay1, k0_pay13, k0_pay12]

end Cert.Kernel3Ideal.Out

end
-- ==== Proof.Out.lean ====
/- What the final stage's kernel computes: each output block, and the result. -/
module

public import proofs.«01_k».proof.Proof.OutBlk
public import proofs.«01_k».proof.Proof.Gen.Kernel3Ideal.Value
public import Idealize.ShloMosaic.Lib.Pipeline.ValueKit

@[expose] public section

set_option maxRecDepth 16384

noncomputable section

namespace Cert.Kernel3Ideal.Out

open Cert.Kernel3Ideal Cert.Kernel3Ideal.Gen Idealize.ShloMosaic Idealize.ShloMosaic.TcCoe Idealize.SL.Sem
open Idealize.ShloMosaic.Pipeline (Dat)

/-- A block of rows through the whole stage. -/
def blk (x : Vec Ideal S1x512x1024 .f32) (ya f b bf bb z ga gb : Vec Ideal S1x512x1024 .bf16) (gate : Vec Ideal S1x1x1024 .f32)
    (gg gs : Vec Ideal S1x1024 .f32) (wa wb wo : Vec Ideal S1024x1024 .bf16) (lg ls : Vec Ideal S1x1024 .f32) : Vec Ideal S1x512x1024 .f32 :=
  k0_pay1 (k0_pay13 (k0_pay10 ya wa) (k0_pay11 (cen f b) (vrc f b) gg gs bf bb z wb) (k0_pay12 ga) gb wo x gate lg) ls

theorem blk_apply (x : Vec Ideal S1x512x1024 .f32) (ya f b bf bb z ga gb : Vec Ideal S1x512x1024 .bf16) (gate : Vec Ideal S1x1x1024 .f32)
    (gg gs : Vec Ideal S1x1024 .f32) (wa wb wo : Vec Ideal S1024x1024 .bf16) (lg ls : Vec Ideal S1x1024 .f32) (a : Fin 1) (p : Fin 512) (d : Fin 1024) :
    blk x ya f b bf bb z ga gb gate gg gs wa wb wo lg ls (ix3 a p d)
      = Cert.Out.stage (fun e => x (ix3 0 p e)) (fun e => ya (ix3 0 p e)) (fun e => f (ix3 0 p e) + b (ix3 0 p e))
        (fun e => bf (ix3 0 p e) + bb (ix3 0 p e)) (fun e => z (ix3 0 p e)) (fun e => ga (ix3 0 p e)) (fun e => gb (ix3 0 p e))
        (fun e => gate (ix3 0 0 e)) (fun e => gg (ix2 0 e)) (fun e => gs (ix2 0 e)) (fun e => lg (ix2 0 e)) (fun e => ls (ix2 0 e))
        (fun k e => wa (ix2 k e)) (fun k e => wb (ix2 k e)) (fun k e => wo (ix2 k e)) d := by
  unfold blk Cert.Out.stage
  rw [pay13_apply]
  simp only [pay10_apply, pay11_apply]
  rfl

variable (m : (ℓ : Loc nD τ sig) → Buf (Elt Ideal) ℓ)

/-- The output block after a point. -/
theorem out (c : Dev nD) (t : Fin cfg0.N) : outsAt0 m c t
    = blk (iblk m c 0 t) (iblk m c 1 t) (iblk m c 2 t) (iblk m c 3 t) (iblk m c 4 t) (iblk m c 5 t) (X0_6 m c t) (X0_7 m c t) (X0_8 m c t)
      (iblk m c 9 t) (iblk m c 10 t) (iblk m c 11 t) (iblk m c 12 t) (iblk m c 13 t) (iblk m c 14 t) (iblk m c 15 t) (iblk m c 16 t) := by
  unfold blk cen vrc outsAt0
  frame_out

theorem idx : ∀ t : Fin cfg0.N,
    win0_0.index t = ![t.val / 8, t.val % 8, 0] ∧ win0_1.index t = ![t.val / 8, t.val % 8, 0]
    ∧ win0_2.index t = ![t.val / 8, t.val % 8, 0] ∧ win0_3.index t = ![t.val / 8, t.val % 8, 0]
    ∧ win0_4.index t = ![t.val / 8, t.val % 8, 0] ∧ win0_5.index t = ![t.val / 8, t.val % 8, 0]
    ∧ win0_6.index t = ![t.val / 8, t.val % 8, 7] ∧ win0_7.index t = ![t.val / 8, t.val % 8, 8]
    ∧ win0_8.index t = ![t.val / 8, t.val % 8, 9] ∧ win0_9.index t = ![t.val / 8, 0, 2]
    ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0]
    ∧ win0_17.index t = ![t.val / 8, t.val % 8, 0] :=
  (by decide +kernel : ∀ t : Fin grid0.N, _)

theorem batch (t : Fin cfg0.N) : t.val / 8 < 8 := by
  have h : t.val < 64 := t.isLt
  omega

theorem row (n : ℕ) : n % 8 < 8 := by omega

/-- The rows of row block `i` of batch `b`. -/
def tpart {φ : EltTy} (X : Vec Ideal S8x4096x1024 φ) (b i : ℕ) (hb : b < 8) (hi : i < 8) : Vec Ideal S1x512x1024 φ :=
  fun y => X (ix3 ⟨b, hb⟩ ⟨512 * i + (y 1).val, by have h : (y 1).val < 512 := (y 1).isLt; omega⟩ (y 2))

/-- … of the columns at offset `o`. -/
def upart (U : FVec Ideal S8x4096x10752 .bf16) (b i o : ℕ) (hb : b < 8) (hi : i < 8) (ho : o + 1024 ≤ 10752) : Vec Ideal S1x512x1024 .bf16 :=
  fun y => U (ix3 ⟨b, hb⟩ ⟨512 * i + (y 1).val, by have h : (y 1).val < 512 := (y 1).isLt; omega⟩
    ⟨o + (y 2).val, by have h : (y 2).val < 1024 := (y 2).isLt; omega⟩)

/-- The gate of batch `b`. -/
def gpart (M : FVec Ideal S16x1x3072 .f32) (b : ℕ) (hb : b < 8) : Vec Ideal S1x1x1024 .f32 :=
  fun y => M (ix3 ⟨b, by omega⟩ 0 ⟨2048 + (y 2).val, by have h : (y 2).val < 1024 := (y 2).isLt; omega⟩)

theorem blk0 (c : Dev nD) (t : Fin cfg0.N) : iblk m c 0 t = tpart (m ((c : Thread nD τ).loc main_arg0)) (t.val / 8) (t.val % 8) (batch t) (row _) := by
  funext y
  unfold tpart
  blk_ext [iblk, V, idx t]

theorem blk1 (c : Dev nD) (t : Fin cfg0.N) : iblk m c 1 t = tpart (m ((c : Thread nD τ).loc main_arg1)) (t.val / 8) (t.val % 8) (batch t) (row _) := by
  funext y
  unfold tpart
  blk_ext [iblk, V, idx t]

theorem blk2 (c : Dev nD) (t : Fin cfg0.N) : iblk m c 2 t = tpart (m ((c : Thread nD τ).loc main_arg2)) (t.val / 8) (t.val % 8) (batch t) (row _) := by
  funext y
  unfold tpart
  blk_ext [iblk, V, idx t]

theorem blk3 (c : Dev nD) (t : Fin cfg0.N) : iblk m c 3 t = tpart (m ((c : Thread nD τ).loc main_arg3)) (t.val / 8) (t.val % 8) (batch t) (row _) := by
  funext y
  unfold tpart
  blk_ext [iblk, V, idx t]

theorem blk4 (c : Dev nD) (t : Fin cfg0.N) : iblk m c 4 t = tpart (m ((c : Thread nD τ).loc main_arg4)) (t.val / 8) (t.val % 8) (batch t) (row _) := by
  funext y
  unfold tpart
  blk_ext [iblk, V, idx t]

theorem blk5 (c : Dev nD) (t : Fin cfg0.N) : iblk m c 5 t = tpart (m ((c : Thread nD τ).loc main_arg5)) (t.val / 8) (t.val % 8) (batch t) (row _) := by
  funext y
  unfold tpart
  blk_ext [iblk, V, idx t]

theorem blk6 (c : Dev nD) (t : Fin cfg0.N) : X0_6 m c t
    = upart (m ((c : Thread nD τ).loc main_arg6)) (t.val / 8) (t.val % 8) 7168 (batch t) (row _) (by omega) := by
  funext y
  unfold X0_6 Pipeline.Window.fill upart
  rw [dif_pos (moved0_6 t y)]
  blk_ext [iblk, V, idx t]

theorem blk7 (c : Dev nD) (t : Fin cfg0.N) : X0_7 m c t
    = upart (m ((c : Thread nD τ).loc main_arg6)) (t.val / 8) (t.val % 8) 8192 (batch t) (row _) (by omega) := by
  funext y
  unfold X0_7 Pipeline.Window.fill upart
  rw [dif_pos (moved0_7 t y)]
  blk_ext [iblk, V, idx t]

theorem blk8 (c : Dev nD) (t : Fin cfg0.N) : X0_8 m c t
    = upart (m ((c : Thread nD τ).loc main_arg6)) (t.val / 8) (t.val % 8) 9216 (batch t) (row _) (by omega) := by
  funext y
  unfold X0_8 Pipeline.Window.fill upart
  rw [dif_pos (moved0_8 t y)]
  blk_ext [iblk, V, idx t]

theorem blk9 (c : Dev nD) (t : Fin cfg0.N) : iblk m c 9 t = gpart (m ((c : Thread nD τ).loc main_arg7)) (t.val / 8) (batch t) := by
  funext y
  unfold gpart
  blk_ext [iblk, V, idx t]

theorem blk10 (c : Dev nD) (t : Fin cfg0.N) : iblk m c 10 t = (m ((c : Thread nD τ).loc main_arg8) : FVec Ideal S1x1024 .f32) := by
  funext y
  blk_ext [iblk, V, idx t]

theorem blk11 (c : Dev nD) (t : Fin cfg0.N) : iblk m c 11 t = (m ((c : Thread nD τ).loc main_arg9) : FVec Ideal S1x1024 .f32) := by
  funext y
  blk_ext [iblk, V, idx t]

theorem blk12 (c : Dev nD) (t : Fin cfg0.N) : iblk m c 12 t = (m ((c : Thread nD τ).loc main_arg10) : FVec Ideal S1024x1024 .bf16) := by
  funext y
  blk_ext [iblk, V, idx t]

theorem blk13 (c : Dev nD) (t : Fin cfg0.N) : iblk m c 13 t = (m ((c : Thread nD τ).loc main_arg11) : FVec Ideal S1024x1024 .bf16) := by
  funext y
  blk_ext [iblk, V, idx t]

theorem blk14 (c : Dev nD) (t : Fin cfg0.N) : iblk m c 14 t = (m ((c : Thread nD τ).loc main_arg12) : FVec Ideal S1024x1024 .bf16) := by
  funext y
  blk_ext [iblk, V, idx t]

theorem blk15 (c : Dev nD) (t : Fin cfg0.N) : iblk m c 15 t = (m ((c : Thread nD τ).loc main_arg13) : FVec Ideal S1x1024 .f32) := by
  funext y
  blk_ext [iblk, V, idx t]

theorem blk16 (c : Dev nD) (t : Fin cfg0.N) : iblk m c 16 t = (m ((c : Thread nD τ).loc main_arg14) : FVec Ideal S1x1024 .f32) := by
  funext y
  blk_ext [iblk, V, idx t]

/-- The result, entry by entry. -/
def res (X : FVec Ideal S8x4096x1024 .f32) (ya f b bf bb : FVec Ideal S8x4096x1024 .bf16) (U : FVec Ideal S8x4096x10752 .bf16)
    (M : FVec Ideal S16x1x3072 .f32) (gg gs : FVec Ideal S1x1024 .f32) (wa wb wo : FVec Ideal S1024x1024 .bf16) (lg ls : FVec Ideal S1x1024 .f32)
    (i : Fin 8) (p : Fin 4096) (d : Fin 1024) : EReal :=
  Cert.Out.stage (fun e => X (ix3 i p e)) (fun e => ya (ix3 i p e)) (fun e => f (ix3 i p e) + b (ix3 i p e))
    (fun e => bf (ix3 i p e) + bb (ix3 i p e)) (fun e => U (ix3 i p ⟨7168 + e.val, by omega⟩)) (fun e => U (ix3 i p ⟨8192 + e.val, by omega⟩))
    (fun e => U (ix3 i p ⟨9216 + e.val, by omega⟩)) (fun e => M (ix3 ⟨i.val, by omega⟩ 0 ⟨2048 + e.val, by omega⟩)) (fun e => gg (ix2 0 e))
    (fun e => gs (ix2 0 e)) (fun e => lg (ix2 0 e)) (fun e => ls (ix2 0 e)) (fun k e => wa (ix2 k e)) (fun k e => wb (ix2 k e))
    (fun k e => wo (ix2 k e)) d

/-- The result as an array. -/
def resArr (X : FVec Ideal S8x4096x1024 .f32) (ya f b bf bb : FVec Ideal S8x4096x1024 .bf16) (U : FVec Ideal S8x4096x10752 .bf16)
    (M : FVec Ideal S16x1x3072 .f32) (gg gs : FVec Ideal S1x1024 .f32) (wa wb wo : FVec Ideal S1024x1024 .bf16) (lg ls : FVec Ideal S1x1024 .f32) :
    FVec Ideal S8x4096x1024 .f32 :=
  fun y => res X ya f b bf bb U M gg gs wa wb wo lg ls (y 0) (y 1) (y 2)

/-- A written block's entry is the result's where the block puts it. -/
theorem block_apply (X : FVec Ideal S8x4096x1024 .f32) (ya f b bf bb : FVec Ideal S8x4096x1024 .bf16) (U : FVec Ideal S8x4096x10752 .bf16)
    (M : FVec Ideal S16x1x3072 .f32) (gg gs : FVec Ideal S1x1024 .f32) (wa wb wo : FVec Ideal S1024x1024 .bf16) (lg ls : FVec Ideal S1x1024 .f32)
    (n i : ℕ) (hn : n < 8) (hi : i < 8) (y : S1x512x1024.Idx) (w : S8x4096x1024.Idx)
    (h0 : (w 0).val = n) (h1 : (w 1).val = 512 * i + (y 1).val) (h2 : (w 2).val = (y 2).val) :
    blk (tpart X n i hn hi) (tpart ya n i hn hi) (tpart f n i hn hi) (tpart b n i hn hi) (tpart bf n i hn hi) (tpart bb n i hn hi)
      (upart U n i 7168 hn hi (by omega)) (upart U n i 8192 hn hi (by omega)) (upart U n i 9216 hn hi (by omega)) (gpart M n hn)
      gg gs wa wb wo lg ls y = resArr X ya f b bf bb U M gg gs wa wb wo lg ls w := by
  obtain ⟨y0, y1, y2, rfl⟩ : ∃ (a : Fin 1) (p : Fin 512) (l : Fin 1024), y = ix3 a p l := ⟨y 0, y 1, y 2, eq_ix3 y⟩
  have l1 : 512 * i + y1.val < 4096 := by omega
  obtain ⟨w0, w1, w2, rfl⟩ : ∃ (a : Fin 8) (p : Fin 4096) (l : Fin 1024), w = ix3 a p l := ⟨w 0, w 1, w 2, eq_ix3 w⟩
  obtain rfl : w0 = ⟨n, hn⟩ := Fin.ext h0
  obtain rfl : w1 = ⟨512 * i + y1.val, l1⟩ := Fin.ext h1
  obtain rfl : w2 = y2 := Fin.ext h2
  exact blk_apply _ _ _ _ _ _ _ _ _ _ _ _ _ _ _ _ _ y0 y1 w2

/-- Where a written block's entry lies. -/
theorem place (t : Fin cfg0.N) (y : S1x512x1024.Idx) :
    ((((cfg0.win 17).blk t).view.emb y) 0).val = t.val / 8
    ∧ ((((cfg0.win 17).blk t).view.emb y) 1).val = 512 * (t.val % 8) + (y 1).val
    ∧ ((((cfg0.win 17).blk t).view.emb y) 2).val = (y 2).val := by
  have hy : (y 0).val < 1 := (y 0).isLt
  refine ⟨?_, ?_, ?_⟩
  · blk_simp [idx t]
    try omega
  · blk_simp [idx t]
    try omega
  · blk_simp [idx t]
    try omega

/-- The result array after the run. -/
theorem final (c : Dev nD) : (dats m 0 c).arrAt 17 cfg0.N
    = resArr (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)) := by
  refine (dats m 0 c).arrAt_eq_of_covers 17 _ (by decide +kernel) fun t _ y => ?_
  blk_simp
  rw [after0_17, out, blk0, blk1, blk2, blk3, blk4, blk5, blk6, blk7, blk8, blk9, blk10, blk11, blk12, blk13, blk14, blk15, blk16]
  have e := place t y
  exact block_apply _ _ _ _ _ _ _ _ _ _ _ _ _ _ _ _ _ _ _ y _ e.1 e.2.1 e.2.2

end Cert.Kernel3Ideal.Out

end
-- ==== Proof.OutRef.lean ====
/- What the final stage's reference computes, entry by entry. -/
module

public import proofs.«01_k».proof.Proof.OutDef
public import proofs.«01_k».proof.Proof.Gen.Reference3Ideal.Run
public import Idealize.ShloMosaic.Lib.Pointwise

@[expose] public section

set_option maxRecDepth 16384

noncomputable section

namespace Cert.Reference3Ideal.Out

open Cert.Reference3Ideal Cert.Reference3Ideal.Gen Idealize.ShloMosaic Idealize.ShloMosaic.TcCoe Idealize.SL.Sem

/-- Both directions' rows, added, by head. -/
def heads (f b : FVec Ideal S8x4096x1024 .bf16) : FVec Ideal S8x4096x16x64 .f32 :=
  shapeCast _ (addf (extf .f32 f bitsLt_bf16_f32) (extf .f32 b bitsLt_bf16_f32)) shapeCasts_S8x4096x1024_S8x4096x16x64

/-- The heads' means. -/
def hmeans (Y : FVec Ideal S8x4096x16x64 .f32) : FVec Ideal S8x4096x16x1 .f32 :=
  Host.divf (broadcastInDim S8x4096x16x1 ![0, 1, 2] bcast_S8x4096x16_S8x4096x16x1_0_1_2
      (Host.reduceAdd Y (constant S_ .f32 0x00000000#32) reducesTo_S8x4096x16x64_S8x4096x16_d3 h_S_))
    (broadcastInDim S8x4096x16x1 ![] bcast_S_S8x4096x16x1 (constant S_ .f32 0x42800000#32))

/-- The heads less their means. -/
def hcent (Y : FVec Ideal S8x4096x16x64 .f32) : FVec Ideal S8x4096x16x64 .f32 :=
  subf Y (broadcastInDim S8x4096x16x64 ![0, 1, 2, 3] bcast_S8x4096x16x1_S8x4096x16x64_0_1_2_3 (hmeans Y))

/-- The reciprocal roots of the heads' variances. -/
def hroots (Y : FVec Ideal S8x4096x16x64 .f32) : FVec Ideal S8x4096x16x1 .f32 :=
  Host.rsqrt (addf (hmeans (mulf (hcent Y) (hcent Y))) (broadcastInDim S8x4096x16x1 ![] bcast_S_S8x4096x16x1 (constant S_ .f32 0x3A27C5AC#32)))

/-- The heads normalized, side by side. -/
def hnorm (Y : FVec Ideal S8x4096x16x64 .f32) : FVec Ideal S8x4096x1024 .f32 :=
  shapeCast _ (mulf (hcent Y) (broadcastInDim S8x4096x16x64 ![0, 1, 2, 3] bcast_S8x4096x16x1_S8x4096x16x64_0_1_2_3 (hroots Y)))
    shapeCasts_S8x4096x16x64_S8x4096x1024

/-- A row of lanes, at every token. -/
def lane (g : FVec Ideal S1x1024 .f32) : FVec Ideal S8x4096x1024 .f32 :=
  broadcastInDim S8x4096x1024 ![0, 1, 2] bcast_S1x1x1024_S8x4096x1024_0_1_2
    (broadcastInDim S1x1x1024 ![2] bcast_S1024_S1x1x1024_2 (shapeCast _ g shapeCasts_S1x1024_S1024))

/-- The readout's gate input. -/
def colZ (U : FVec Ideal S8x4096x10752 .bf16) : FVec Ideal S8x4096x1024 .f32 :=
  extf .f32 (extractStridedSlice S8x4096x1024 ![0, 0, 7168] U slices_S8x4096x10752_S8x4096x1024_0_0_7168) bitsLt_bf16_f32

/-- The first branch's gate input. -/
def colA (U : FVec Ideal S8x4096x10752 .bf16) : FVec Ideal S8x4096x1024 .f32 :=
  extf .f32 (extractStridedSlice S8x4096x1024 ![0, 0, 8192] U slices_S8x4096x10752_S8x4096x1024_0_0_8192) bitsLt_bf16_f32

/-- The second branch's gate input. -/
def colB (U : FVec Ideal S8x4096x10752 .bf16) : FVec Ideal S8x4096x1024 .f32 :=
  extf .f32 (extractStridedSlice S8x4096x1024 ![0, 0, 9216] U slices_S8x4096x10752_S8x4096x1024_0_0_9216) bitsLt_bf16_f32

/-- A gate. -/
def sigm (X : FVec Ideal S8x4096x1024 .f32) : FVec Ideal S8x4096x1024 .f32 :=
  Host.divf (broadcastInDim S8x4096x1024 ![] bcast_S_S8x4096x1024 (constant S_ .f32 0x3F800000#32))
    (addf (broadcastInDim S8x4096x1024 ![] bcast_S_S8x4096x1024 (constant S_ .f32 0x3F800000#32)) (Host.exp (Host.negf X)))

/-- A product with weights. -/
def dot (X : FVec Ideal S8x4096x1024 .f32) (W : FVec Ideal S1024x1024 .bf16) : FVec Ideal S8x4096x1024 .f32 :=
  Host.dotGeneral dot_S8x4096x1024_S1024x1024_S8x4096x1024_2_0_01_1_n_n none X (extf .f32 W bitsLt_bf16_f32)

/-- The readout. -/
def read (f b bf bb : FVec Ideal S8x4096x1024 .bf16) (U : FVec Ideal S8x4096x10752 .bf16) (g s : FVec Ideal S1x1024 .f32) :
    FVec Ideal S8x4096x1024 .f32 :=
  mulf (addf (addf (mulf (hnorm (heads f b)) (lane g)) (lane s)) (addf (extf .f32 bf bitsLt_bf16_f32) (extf .f32 bb bitsLt_bf16_f32)))
    (mulf (colZ U) (sigm (colZ U)))

/-- The merge of both branches. -/
def merge (ya : FVec Ideal S8x4096x1024 .bf16) (R : FVec Ideal S8x4096x1024 .f32) (U : FVec Ideal S8x4096x10752 .bf16)
    (wa wb : FVec Ideal S1024x1024 .bf16) : FVec Ideal S8x4096x1024 .f32 :=
  addf (mulf (sigm (colA U)) (dot (extf .f32 ya bitsLt_bf16_f32) wa)) (mulf (sigm (colB U)) (dot R wb))

/-- The gated residual. -/
def resid (X : FVec Ideal S8x4096x1024 .f32) (M : FVec Ideal S16x1x3072 .f32) (G : FVec Ideal S8x4096x1024 .f32) (wo : FVec Ideal S1024x1024 .bf16) :
    FVec Ideal S8x4096x1024 .f32 :=
  addf (mulf (broadcastInDim S8x4096x1024 ![] bcast_S_S8x4096x1024 (constant S_ .f32 0x3F9837F0#32)) X)
    (mulf (broadcastInDim S8x4096x1024 ![0, 1, 2] bcast_S8x1x1024_S8x4096x1024_0_1_2 (broadcastInDim S8x1x1024 ![0, 2] bcast_S8x1024_S8x1x1024_0_2
      (shapeCast _ (extractStridedSlice S8x1x1024 ![0, 0, 2048] M slices_S16x1x3072_S8x1x1024_0_0_2048) shapeCasts_S8x1x1024_S8x1024))) (dot G wo))

/-- The rows' means. -/
def means (X : FVec Ideal S8x4096x1024 .f32) : FVec Ideal S8x4096x1 .f32 :=
  Host.divf (broadcastInDim S8x4096x1 ![0, 1] bcast_S8x4096_S8x4096x1_0_1
      (Host.reduceAdd X (constant S_ .f32 0x00000000#32) reducesTo_S8x4096x1024_S8x4096_d2 h_S_))
    (broadcastInDim S8x4096x1 ![] bcast_S_S8x4096x1 (constant S_ .f32 0x44800000#32))

/-- The rows less their means. -/
def cent (X : FVec Ideal S8x4096x1024 .f32) : FVec Ideal S8x4096x1024 .f32 :=
  subf X (broadcastInDim S8x4096x1024 ![0, 1, 2] bcast_S8x4096x1_S8x4096x1024_0_1_2 (means X))

/-- The reciprocal roots of the rows' variances. -/
def roots (X : FVec Ideal S8x4096x1024 .f32) : FVec Ideal S8x4096x1 .f32 :=
  Host.rsqrt (addf (means (mulf (cent X) (cent X))) (broadcastInDim S8x4096x1 ![] bcast_S_S8x4096x1 (constant S_ .f32 0x3727C5AC#32)))

/-- The layer norm after the residual. -/
def norm (X : FVec Ideal S8x4096x1024 .f32) (g s : FVec Ideal S1x1024 .f32) : FVec Ideal S8x4096x1024 .f32 :=
  addf (mulf (mulf (cent X) (broadcastInDim S8x4096x1024 ![0, 1, 2] bcast_S8x4096x1_S8x4096x1024_0_1_2 (roots X))) (lane g)) (lane s)

/-- The reference's result. -/
def res (X : FVec Ideal S8x4096x1024 .f32) (ya f b bf bb : FVec Ideal S8x4096x1024 .bf16) (U : FVec Ideal S8x4096x10752 .bf16)
    (M : FVec Ideal S16x1x3072 .f32) (gg gs : FVec Ideal S1x1024 .f32) (wa wb wo : FVec Ideal S1024x1024 .bf16) (lg ls : FVec Ideal S1x1024 .f32) :
    FVec Ideal S8x4096x1024 .f32 :=
  norm (resid X M (merge ya (read f b bf bb U gg gs) U wa wb) wo) lg ls

theorem res_eq (m : (ℓ : Loc nD τ sig) → Buf (Elt Ideal) ℓ) (c : Dev nD) :
    Cert.Reference3Ideal.Value.res_out0 m c = res (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13))
      (m ((c.tc : Thread nD τ).loc main_arg14)) := rfl

theorem heads_apply (f b : FVec Ideal S8x4096x1024 .bf16) (i : Fin 8) (p : Fin 4096) (h : Fin 16) (j : Fin 64) :
    heads f b (ix4 i p h j) = f (ix3 i p ⟨h.val * 64 + j.val, by omega⟩) + b (ix3 i p ⟨h.val * 64 + j.val, by omega⟩) := by
  pointwise [heads]

theorem hmeans_apply (Y : FVec Ideal S8x4096x16x64 .f32) (i : Fin 8) (p : Fin 4096) (h : Fin 16) (a : Fin 1) :
    hmeans Y (ix4 i p h a) = Ideal.div (∑ j : Fin 64, Y (ix4 i p h j)) (Ideal.ofBits .f32 0x42800000#32) := by
  pointwise [hmeans]

theorem hcent_apply (Y : FVec Ideal S8x4096x16x64 .f32) (i : Fin 8) (p : Fin 4096) (h : Fin 16) (j : Fin 64) :
    hcent Y (ix4 i p h j) = Y (ix4 i p h j) - Ideal.div (∑ j : Fin 64, Y (ix4 i p h j)) (Ideal.ofBits .f32 0x42800000#32) := by
  pointwise [hcent, hmeans_apply]

theorem hroots_apply (Y : FVec Ideal S8x4096x16x64 .f32) (i : Fin 8) (p : Fin 4096) (h : Fin 16) (a : Fin 1) :
    hroots Y (ix4 i p h a) = Ideal.rsqrt (Ideal.div (∑ j : Fin 64, hcent Y (ix4 i p h j) * hcent Y (ix4 i p h j)) (Ideal.ofBits .f32 0x42800000#32)
      + Ideal.ofBits .f32 0x3A27C5AC#32) := by
  pointwise [hroots, hmeans_apply]

theorem hnorm_apply (Y : FVec Ideal S8x4096x16x64 .f32) (i : Fin 8) (p : Fin 4096) (d : Fin 1024) :
    hnorm Y (ix3 i p d) = hcent Y (ix4 i p ⟨d.val / 64, by omega⟩ ⟨d.val % 64, by omega⟩) * hroots Y (ix4 i p ⟨d.val / 64, by omega⟩ 0) := by
  pointwise [hnorm]

theorem head_mean (y : Fin 1024 → EReal) (h : Fin 16) (j : Fin 64) :
    Cert.Out.hmean y ⟨h.val * 64 + j.val, by omega⟩ = Ideal.div (∑ j : Fin 64, y ⟨h.val * 64 + j.val, by omega⟩) (Ideal.ofBits .f32 0x42800000#32) := by
  unfold Cert.Out.hmean
  refine congrArg (fun s => Ideal.div s _) (Finset.sum_congr rfl fun k _ => congrArg y (Fin.ext ?_))
  show 64 * ((h.val * 64 + j.val) / 64) + k.val = h.val * 64 + k.val
  omega

theorem norm_heads (f b : FVec Ideal S8x4096x1024 .bf16) (i : Fin 8) (p : Fin 4096) (d : Fin 1024) :
    hnorm (heads f b) (ix3 i p d)
      = ((f (ix3 i p d) + b (ix3 i p d)) - Cert.Out.hmean (fun e => f (ix3 i p e) + b (ix3 i p e)) d)
        * Ideal.rsqrt (Cert.Out.hvar (fun e => f (ix3 i p e) + b (ix3 i p e)) d + Ideal.ofBits .f32 0x3A27C5AC#32) := by
  obtain ⟨h, j, rfl⟩ : ∃ (h : Fin 16) (j : Fin 64), d = ⟨h.val * 64 + j.val, by omega⟩ :=
    ⟨⟨d.val / 64, by omega⟩, ⟨d.val % 64, by omega⟩, Fin.ext (by dsimp only; omega)⟩
  have a : (⟨(h.val * 64 + j.val) / 64, by omega⟩ : Fin 16) = h := Fin.ext (by dsimp only; omega)
  have a' : (⟨(h.val * 64 + j.val) % 64, by omega⟩ : Fin 64) = j := Fin.ext (by dsimp only; omega)
  rw [hnorm_apply]
  dsimp only
  rw [a, a', hroots_apply]
  unfold Cert.Out.hvar
  simp only [hcent_apply, heads_apply, head_mean]

theorem lane_apply (g : FVec Ideal S1x1024 .f32) (i : Fin 8) (p : Fin 4096) (d : Fin 1024) : lane g (ix3 i p d) = g (ix2 0 d) := by
  pointwise [lane]

theorem sigm_apply (X : FVec Ideal S8x4096x1024 .f32) (i : Fin 8) (p : Fin 4096) (d : Fin 1024) :
    sigm X (ix3 i p d) = Cert.Out.sig (X (ix3 i p d)) := by
  unfold Cert.Out.sig
  pointwise [sigm]
  rfl

theorem dot_apply (X : FVec Ideal S8x4096x1024 .f32) (W : FVec Ideal S1024x1024 .bf16) (i : Fin 8) (p : Fin 4096) (d : Fin 1024) :
    dot X W (ix3 i p d) = ∑ k : Fin 1024, X (ix3 i p k) * W (ix2 k d) := by
  pointwise [dot]

theorem colZ_apply (U : FVec Ideal S8x4096x10752 .bf16) (i : Fin 8) (p : Fin 4096) (d : Fin 1024) :
    colZ U (ix3 i p d) = U (ix3 i p ⟨7168 + d.val, by omega⟩) := by
  pointwise [colZ]

theorem colA_apply (U : FVec Ideal S8x4096x10752 .bf16) (i : Fin 8) (p : Fin 4096) (d : Fin 1024) :
    colA U (ix3 i p d) = U (ix3 i p ⟨8192 + d.val, by omega⟩) := by
  pointwise [colA]

theorem colB_apply (U : FVec Ideal S8x4096x10752 .bf16) (i : Fin 8) (p : Fin 4096) (d : Fin 1024) :
    colB U (ix3 i p d) = U (ix3 i p ⟨9216 + d.val, by omega⟩) := by
  pointwise [colB]

theorem read_apply (f b bf bb : FVec Ideal S8x4096x1024 .bf16) (U : FVec Ideal S8x4096x10752 .bf16) (g s : FVec Ideal S1x1024 .f32)
    (i : Fin 8) (p : Fin 4096) (d : Fin 1024) :
    read f b bf bb U g s (ix3 i p d) = Cert.Out.readout (fun e => f (ix3 i p e) + b (ix3 i p e)) (fun e => bf (ix3 i p e) + bb (ix3 i p e))
      (fun e => U (ix3 i p ⟨7168 + e.val, by omega⟩)) (fun e => g (ix2 0 e)) (fun e => s (ix2 0 e)) d := by
  unfold Cert.Out.readout
  pointwise [read, norm_heads, lane_apply, sigm_apply, colZ_apply]

theorem merge_apply (ya : FVec Ideal S8x4096x1024 .bf16) (R : FVec Ideal S8x4096x1024 .f32) (U : FVec Ideal S8x4096x10752 .bf16)
    (wa wb : FVec Ideal S1024x1024 .bf16) (i : Fin 8) (p : Fin 4096) (d : Fin 1024) :
    merge ya R U wa wb (ix3 i p d) = Cert.Out.merged (fun e => ya (ix3 i p e)) (fun e => R (ix3 i p e))
      (fun e => U (ix3 i p ⟨8192 + e.val, by omega⟩)) (fun e => U (ix3 i p ⟨9216 + e.val, by omega⟩))
      (fun k e => wa (ix2 k e)) (fun k e => wb (ix2 k e)) d := by
  unfold Cert.Out.merged
  pointwise [merge, sigm_apply, colA_apply, colB_apply, dot_apply]

theorem resid_apply (X : FVec Ideal S8x4096x1024 .f32) (M : FVec Ideal S16x1x3072 .f32) (G : FVec Ideal S8x4096x1024 .f32)
    (wo : FVec Ideal S1024x1024 .bf16) (i : Fin 8) (p : Fin 4096) (d : Fin 1024) :
    resid X M G wo (ix3 i p d) = Cert.Out.total (fun e => X (ix3 i p e)) (fun e => M (ix3 ⟨i.val, by omega⟩ 0 ⟨2048 + e.val, by omega⟩))
      (fun e => G (ix3 i p e)) (fun k e => wo (ix2 k e)) d := by
  unfold Cert.Out.total
  pointwise [resid, dot_apply]

theorem means_apply (X : FVec Ideal S8x4096x1024 .f32) (b : Fin 8) (p : Fin 4096) (a : Fin 1) :
    means X (ix3 b p a) = Cert.Proj.mean fun d => X (ix3 b p d) := by
  unfold Cert.Proj.mean
  pointwise [means]

theorem cent_apply (X : FVec Ideal S8x4096x1024 .f32) (b : Fin 8) (p : Fin 4096) (d : Fin 1024) :
    cent X (ix3 b p d) = X (ix3 b p d) - Cert.Proj.mean fun e => X (ix3 b p e) := by
  pointwise [cent, means_apply]

theorem roots_apply (X : FVec Ideal S8x4096x1024 .f32) (b : Fin 8) (p : Fin 4096) (a : Fin 1) :
    roots X (ix3 b p a) = Ideal.rsqrt (Cert.Proj.var (fun d => X (ix3 b p d)) + Ideal.ofBits .f32 0x3727C5AC#32) := by
  unfold Cert.Proj.var
  pointwise [roots, means_apply, cent_apply]

theorem norm_apply (X : FVec Ideal S8x4096x1024 .f32) (g s : FVec Ideal S1x1024 .f32) (i : Fin 8) (p : Fin 4096) (d : Fin 1024) :
    norm X g s (ix3 i p d) = Cert.Out.post (fun e => X (ix3 i p e)) (fun e => g (ix2 0 e)) (fun e => s (ix2 0 e)) d := by
  unfold Cert.Out.post
  pointwise [norm, cent_apply, roots_apply, lane_apply]

/-- The reference's result, entry by entry. -/
theorem res_apply (X : FVec Ideal S8x4096x1024 .f32) (ya f b bf bb : FVec Ideal S8x4096x1024 .bf16) (U : FVec Ideal S8x4096x10752 .bf16)
    (M : FVec Ideal S16x1x3072 .f32) (gg gs : FVec Ideal S1x1024 .f32) (wa wb wo : FVec Ideal S1024x1024 .bf16) (lg ls : FVec Ideal S1x1024 .f32)
    (i : Fin 8) (p : Fin 4096) (d : Fin 1024) :
    res X ya f b bf bb U M gg gs wa wb wo lg ls (ix3 i p d)
      = Cert.Out.stage (fun e => X (ix3 i p e)) (fun e => ya (ix3 i p e)) (fun e => f (ix3 i p e) + b (ix3 i p e))
        (fun e => bf (ix3 i p e) + bb (ix3 i p e)) (fun e => U (ix3 i p ⟨7168 + e.val, by omega⟩)) (fun e => U (ix3 i p ⟨8192 + e.val, by omega⟩))
        (fun e => U (ix3 i p ⟨9216 + e.val, by omega⟩)) (fun e => M (ix3 ⟨i.val, by omega⟩ 0 ⟨2048 + e.val, by omega⟩)) (fun e => gg (ix2 0 e))
        (fun e => gs (ix2 0 e)) (fun e => lg (ix2 0 e)) (fun e => ls (ix2 0 e)) (fun k e => wa (ix2 k e)) (fun k e => wb (ix2 k e))
        (fun k e => wo (ix2 k e)) d := by
  unfold Cert.Out.stage res
  rw [norm_apply]
  simp only [resid_apply, merge_apply, read_apply]

end Cert.Reference3Ideal.Out

end
-- ==== Proof.Mod.lean ====
/- The modulation of the conditioning: what the kernel computes, and what its reference computes. -/
module

public import proofs.«01_k».proof.Proof.Gen.Kernel4Ideal.Value
public import proofs.«01_k».proof.Proof.Gen.Reference4Ideal.Run
public import Idealize.ShloMosaic.Lib.Pointwise
public import Idealize.ShloMosaic.Lib.Pipeline.ValueKit

@[expose] public section

set_option maxRecDepth 16384

noncomputable section

namespace Cert.Kernel4Ideal.Mod

open Cert.Kernel4Ideal Cert.Kernel4Ideal.Gen Idealize.ShloMosaic Idealize.ShloMosaic.TcCoe Idealize.SL.Sem
open Idealize.ShloMosaic.Pipeline (Dat)

/-- The result, entry by entry. -/
def res (X : FVec Ideal S16x1024 .f32) (W : FVec Ideal S1024x3072 .f32) (B : FVec Ideal S3072 .f32) (r : Fin 16) (j : Fin 3072) : EReal :=
  ∑ d : Fin 1024, X (ix2 r d) * Ideal.logistic (X (ix2 r d)) * W (ix2 d j) + B (ix1 j)

/-- The result as an array. -/
def resArr (X : FVec Ideal S16x1024 .f32) (W : FVec Ideal S1024x3072 .f32) (B : FVec Ideal S3072 .f32) : FVec Ideal S16x3072 .f32 :=
  fun y => res X W B (y 0) (y 1)

theorem pay_apply (x : Vec Ideal S16x1024 .f32) (w : Vec Ideal S1024x1024 .f32) (b : Vec Ideal S1x1024 .f32) (r : Fin 16) (j : Fin 1024) :
    k0_pay1 x w b (ix2 r j) = ∑ d : Fin 1024, x (ix2 r d) * Ideal.logistic (x (ix2 r d)) * w (ix2 d j) + b (ix2 0 j) := by
  pointwise [k0_pay1]

variable (m : (ℓ : Loc nD τ sig) → Buf (Elt Ideal) ℓ)

theorem out (x : Vec Ideal S16x1024 .f32) (w : Vec Ideal S1024x1024 .f32) (b : Vec Ideal S1x1024 .f32) : out0_3 x w b = k0_pay1 x w b := by
  frame_out

theorem idx : ∀ t : Fin cfg0.N,
    win0_0.index t = ![0, 0] ∧ win0_1.index t = ![0, t.val] ∧ win0_2.index t = ![0, t.val] ∧ win0_3.index t = ![0, t.val] :=
  (by decide +kernel : ∀ t : Fin grid0.N, _)

theorem third (t : Fin cfg0.N) : t.val < 3 := t.isLt

/-- The weights' columns of block `j`. -/
def wpart (W : FVec Ideal S1024x3072 .f32) (j : ℕ) (hj : j < 3) : Vec Ideal S1024x1024 .f32 :=
  fun y => W (ix2 (y 0) ⟨1024 * j + (y 1).val, by have h : (y 1).val < 1024 := (y 1).isLt; omega⟩)

/-- The bias's columns of block `j`. -/
def bpart (B : FVec Ideal S3072 .f32) (j : ℕ) (hj : j < 3) : Vec Ideal S1x1024 .f32 :=
  fun y => B (ix1 ⟨1024 * j + (y 1).val, by have h : (y 1).val < 1024 := (y 1).isLt; omega⟩)

theorem blk0 (c : Dev nD) (t : Fin cfg0.N) : iblk m c 0 t = (m ((c : Thread nD τ).loc main_arg0) : FVec Ideal S16x1024 .f32) := by
  rw [← V_main_arg0 m c]
  funext y
  blk_ext [iblk, idx t]

theorem blk1 (c : Dev nD) (t : Fin cfg0.N) : iblk m c 1 t = wpart (m ((c : Thread nD τ).loc main_arg1)) t.val (third t) := by
  rw [← V_main_arg1 m c]
  funext y
  unfold wpart
  blk_ext [iblk, idx t]

/-- The bias as a row, as the call's host code leaves it. -/
theorem host (c : Dev nD) : (V m c main_v0 : FVec Ideal S1x3072 .f32)
    = shapeCast S1x3072 (m ((c : Thread nD τ).loc main_arg2) : FVec Ideal S3072 .f32) shapeCasts_S3072_S1x3072 := rfl

theorem host_apply (c : Dev nD) (j : Fin 3072) : (V m c main_v0 : FVec Ideal S1x3072 .f32) (ix2 0 j)
    = (m ((c : Thread nD τ).loc main_arg2) : FVec Ideal S3072 .f32) (ix1 j) := by
  rw [host]
  pointwise

theorem blk2 (c : Dev nD) (t : Fin cfg0.N) : iblk m c 2 t = bpart (m ((c : Thread nD τ).loc main_arg2)) t.val (third t) := by
  funext y
  obtain ⟨y0, y1, rfl⟩ : ∃ (a : Fin 1) (l : Fin 1024), y = ix2 a l := ⟨y 0, y 1, eq_ix2 y⟩
  unfold bpart
  have h := third t
  refine Eq.trans ?_ (host_apply m c _)
  blk_ext [iblk, idx t]

/-- A written block's entry is the result's where the block puts it. -/
theorem block_apply (X : FVec Ideal S16x1024 .f32) (W : FVec Ideal S1024x3072 .f32) (B : FVec Ideal S3072 .f32)
    (j : ℕ) (hj : j < 3) (y : S16x1024.Idx) (z : S16x3072.Idx) (h0 : (z 0).val = (y 0).val) (h1 : (z 1).val = 1024 * j + (y 1).val) :
    k0_pay1 X (wpart W j hj) (bpart B j hj) y = resArr X W B z := by
  obtain ⟨y0, y1, rfl⟩ : ∃ (a : Fin 16) (l : Fin 1024), y = ix2 a l := ⟨y 0, y 1, eq_ix2 y⟩
  have l1 : 1024 * j + y1.val < 3072 := by omega
  obtain ⟨z0, z1, rfl⟩ : ∃ (a : Fin 16) (l : Fin 3072), z = ix2 a l := ⟨z 0, z 1, eq_ix2 z⟩
  obtain rfl : z0 = y0 := Fin.ext h0
  obtain rfl : z1 = ⟨1024 * j + y1.val, l1⟩ := Fin.ext h1
  exact pay_apply _ _ _ z0 y1

theorem place (t : Fin cfg0.N) (y : S16x1024.Idx) :
    ((((cfg0.win 3).blk t).view.emb y) 0).val = (y 0).val ∧ ((((cfg0.win 3).blk t).view.emb y) 1).val = 1024 * t.val + (y 1).val := by
  refine ⟨?_, ?_⟩
  · blk_simp [idx t]
    try omega
  · blk_simp [idx t]
    try omega

/-- The result array after the run. -/
theorem final (c : Dev nD) : (dats m 0 c).arrAt 3 cfg0.N
    = resArr (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, blk0, blk1, blk2, out]
  have e := place t y
  exact block_apply _ _ _ _ _ y _ e.1 e.2

end Cert.Kernel4Ideal.Mod

namespace Cert.Reference4Ideal.Mod

open Cert.Reference4Ideal Cert.Reference4Ideal.Gen Idealize.ShloMosaic Idealize.ShloMosaic.TcCoe Idealize.SL.Sem

/-- The reference's result. -/
def res (X : FVec Ideal S16x1024 .f32) (W : FVec Ideal S1024x3072 .f32) (B : FVec Ideal S3072 .f32) : FVec Ideal S16x3072 .f32 :=
  addf (Host.dotGeneral dot_S16x1024_S1024x3072_S16x3072_1_0_0_1_n_n none
      (mulf X (Host.divf (broadcastInDim S16x1024 ![] bcast_S_S16x1024 (constant S_ .f32 0x3F800000#32))
        (addf (broadcastInDim S16x1024 ![] bcast_S_S16x1024 (constant S_ .f32 0x3F800000#32)) (Host.exp (Host.negf X))))) W)
    (broadcastInDim S16x3072 ![0, 1] bcast_S1x3072_S16x3072_0_1 (broadcastInDim S1x3072 ![1] bcast_S3072_S1x3072_1 B))

theorem res_apply (X : FVec Ideal S16x1024 .f32) (W : FVec Ideal S1024x3072 .f32) (B : FVec Ideal S3072 .f32) (r : Fin 16) (j : Fin 3072) :
    res X W B (ix2 r j) = Cert.Kernel4Ideal.Mod.res X W B r j := by
  unfold Cert.Kernel4Ideal.Mod.res Ideal.logistic
  pointwise [res]

end Cert.Reference4Ideal.Mod

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Equal
public import proofs.«01_k».proof.Proof.Proj
public import proofs.«01_k».proof.Proof.ProjRef
public import proofs.«01_k».proof.Proof.Out
public import proofs.«01_k».proof.Proof.OutRef
public import proofs.«01_k».proof.Proof.Mod
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel runs, ends quiescent and leaves its arguments. -/
theorem quiet_kernel : Cert.quiescent_Kernel := by
  intro m g _
  exact Cert.Kernel.Gen.frame m g

/-- … and its idealization. -/
theorem quiet_ideal : Cert.quiescent_KernelIdeal := by
  intro m g _
  exact Cert.KernelIdeal.Gen.frame m g

/-- … and its idealization, under the precondition. -/
theorem quiet_ideal_pre [Cert.Pre_finite.Facts] : Cert.quiescent_KernelIdeal_pre_finite := by
  intro m g _
  exact Cert.KernelIdeal.Gen.frame m g

/-- The reference runs, ends quiescent and leaves its arguments. -/
theorem quiet_reference : Cert.quiescent_ReferenceIdeal := by
  intro m g _
  exact (θ_run _ _ _).mono (fun r h => ⟨fun c => (h c).2, sem_eq_zero_of_no_sems (by decide) r.2⟩) (Cert.ReferenceIdeal.Value.run m g)

/-- … under the precondition. -/
theorem quiet_reference_pre [Cert.Pre_finite.Facts] : Cert.quiescent_ReferenceIdeal_pre_finite := by
  intro m g _
  exact (θ_run _ _ _).mono (fun r h => ⟨fun c => (h c).2, sem_eq_zero_of_no_sems (by decide) r.2⟩) (Cert.ReferenceIdeal.Value.run m g)

/-- The named constant. -/
theorem named : Cert.preserves_Kernel_KernelIdeal :=
  IdealRules.named_const.statement Cert.KernelIdeal.κ "log2e" .f32 0x3FB8AA3B#32 (((Real.log 2)⁻¹ : ℝ) : EReal) rfl

/-- The idealized kernel's result is the reference's. -/
theorem equal [Cert.Pre_finite.Facts] : Cert.algebraic_KernelIdeal_ReferenceIdeal_pre_finite := by
  pair_intro
  · run_from Cert.KernelIdeal.Value.run_blocks m g
  · run_from Cert.ReferenceIdeal.Value.run m' g'
    have e0 := (hagree c).1
    have e1 := (hagree c).2.1
    have e2 := (hagree c).2.2
    refine (Cert.ReferenceIdeal.Attn.res_eq m' c).trans ?_
    refine Eq.trans ?_ (Cert.KernelIdeal.Attn.final m c).symm
    rw [Cert.KernelIdeal.Attn.tab_eq m c]
    have h := Cert.Equal.arrays _ _ _ (Cert.Finite.of_pre _ _ _ (hpre c))
    refine Eq.trans ?_ h.symm
    rw [← e0, ← e1, ← e2]

/-- The projection's kernel runs, ends quiescent and leaves its arguments. -/
theorem quiet_kernel2 : Cert.quiescent_Kernel2 := by
  intro m g _
  exact Cert.Kernel2.Gen.frame m g

/-- … and its idealization. -/
theorem quiet_ideal2 : Cert.quiescent_Kernel2Ideal := by
  intro m g _
  exact Cert.Kernel2Ideal.Gen.frame m g

/-- … and its reference. -/
theorem quiet_reference2 : Cert.quiescent_Reference2Ideal := by
  intro m g _
  exact (θ_run _ _ _).mono (fun r h => ⟨fun c => (h c).2, sem_eq_zero_of_no_sems (by decide) r.2⟩) (Cert.Reference2Ideal.Value.run m g)

/-- The projection's two results are the same array. -/
theorem projected (X : FVec Ideal Cert.Kernel2Ideal.S8x4096x1024 .f32) (M : FVec Ideal Cert.Kernel2Ideal.S16x1x3072 .f32)
    (W : FVec Ideal Cert.Kernel2Ideal.S1024x10752 .bf16) :
    Cert.Reference2Ideal.Proj.res X M W = Cert.Kernel2Ideal.Proj.resArr X M W := by
  funext y
  obtain ⟨b, p, j, rfl⟩ : ∃ (b : Fin 8) (p : Fin 4096) (j : Fin 10752), y = ix3 b p j := ⟨y 0, y 1, y 2, eq_ix3 y⟩
  refine (Cert.Reference2Ideal.Proj.res_apply X M W _ _ _).trans ?_
  simp only [Cert.Reference2Ideal.Proj.hidden_apply]
  rfl

/-- The idealized projection's result is its reference's. -/
theorem equal2 : Cert.algebraic_Kernel2Ideal_Reference2Ideal := by
  pair_intro
  · run_from Cert.Kernel2Ideal.Value.run_blocks m g
  · run_from Cert.Reference2Ideal.Value.run m' g'
    have e0 := (hagree c).1
    have e1 := (hagree c).2.1
    have e2 := (hagree c).2.2
    refine Eq.trans ?_ (Cert.Kernel2Ideal.Proj.final m c).symm
    refine Eq.trans ?_ (projected _ _ _)
    rw [← e0, ← e1, ← e2]
    rfl

/-- The final stage runs, ends quiescent and leaves its arguments. -/
theorem quiet_kernel3 : Cert.quiescent_Kernel3 := by
  intro m g _
  exact Cert.Kernel3.Gen.frame m g

/-- … and its idealization. -/
theorem quiet_ideal3 : Cert.quiescent_Kernel3Ideal := by
  intro m g _
  exact Cert.Kernel3Ideal.Gen.frame m g

/-- … and its reference. -/
theorem quiet_reference3 : Cert.quiescent_Reference3Ideal := by
  intro m g _
  exact (θ_run _ _ _).mono (fun r h => ⟨fun c => (h c).2, sem_eq_zero_of_no_sems (by decide) r.2⟩) (Cert.Reference3Ideal.Value.run m g)

/-- The final stage's two results are the same array. -/
theorem finished (X : FVec Ideal Cert.Kernel3Ideal.S8x4096x1024 .f32) (ya f b bf bb : FVec Ideal Cert.Kernel3Ideal.S8x4096x1024 .bf16)
    (U : FVec Ideal Cert.Kernel3Ideal.S8x4096x10752 .bf16) (M : FVec Ideal Cert.Kernel3Ideal.S16x1x3072 .f32)
    (gg gs : FVec Ideal Cert.Kernel3Ideal.S1x1024 .f32) (wa wb wo : FVec Ideal Cert.Kernel3Ideal.S1024x1024 .bf16)
    (lg ls : FVec Ideal Cert.Kernel3Ideal.S1x1024 .f32) :
    Cert.Reference3Ideal.Out.res X ya f b bf bb U M gg gs wa wb wo lg ls = Cert.Kernel3Ideal.Out.resArr X ya f b bf bb U M gg gs wa wb wo lg ls := by
  funext y
  obtain ⟨n, p, d, rfl⟩ : ∃ (n : Fin 8) (p : Fin 4096) (d : Fin 1024), y = ix3 n p d := ⟨y 0, y 1, y 2, eq_ix3 y⟩
  exact Cert.Reference3Ideal.Out.res_apply X ya f b bf bb U M gg gs wa wb wo lg ls n p d

/-- The idealized final stage's result is its reference's. -/
theorem equal3 : Cert.algebraic_Kernel3Ideal_Reference3Ideal := by
  pair_intro
  · run_from Cert.Kernel3Ideal.Value.run_blocks m g
  · run_from Cert.Reference3Ideal.Value.run m' g'
    obtain ⟨e0, e1, e2, e3, e4, e5, e6, e7, e8, e9, e10, e11, e12, e13, e14⟩ := hagree c
    refine Eq.trans ?_ (Cert.Kernel3Ideal.Out.final m c).symm
    refine Eq.trans ?_ (finished _ _ _ _ _ _ _ _ _ _ _ _ _ _ _)
    rw [← e0, ← e1, ← e2, ← e3, ← e4, ← e5, ← e6, ← e7, ← e8, ← e9, ← e10, ← e11, ← e12, ← e13, ← e14]
    exact Cert.Reference3Ideal.Out.res_eq m' c

/-- The modulation's kernel runs, ends quiescent and leaves its arguments. -/
theorem quiet_kernel4 : Cert.quiescent_Kernel4 := by
  intro m g _
  exact Cert.Kernel4.Gen.frame m g

/-- … and its idealization. -/
theorem quiet_ideal4 : Cert.quiescent_Kernel4Ideal := by
  intro m g _
  exact Cert.Kernel4Ideal.Gen.frame m g

/-- … and its reference. -/
theorem quiet_reference4 : Cert.quiescent_Reference4Ideal := by
  intro m g _
  exact (θ_run _ _ _).mono (fun r h => ⟨fun c => (h c).2, sem_eq_zero_of_no_sems (by decide) r.2⟩) (Cert.Reference4Ideal.Value.run m g)

/-- The modulation's two results are the same array. -/
theorem modulated (X : FVec Ideal Cert.Kernel4Ideal.S16x1024 .f32) (W : FVec Ideal Cert.Kernel4Ideal.S1024x3072 .f32)
    (B : FVec Ideal Cert.Kernel4Ideal.S3072 .f32) :
    Cert.Reference4Ideal.Mod.res X W B = Cert.Kernel4Ideal.Mod.resArr X W B := by
  funext y
  obtain ⟨i, j, rfl⟩ : ∃ (i : Fin 16) (j : Fin 3072), y = ix2 i j := ⟨y 0, y 1, eq_ix2 y⟩
  exact Cert.Reference4Ideal.Mod.res_apply X W B i j

/-- The idealized modulation's result is its reference's. -/
theorem equal4 : Cert.algebraic_Kernel4Ideal_Reference4Ideal := by
  pair_intro
  · run_from Cert.Kernel4Ideal.Value.run_blocks m g
  · run_from Cert.Reference4Ideal.Value.run m' g'
    obtain ⟨e0, e1, e2⟩ := hagree c
    refine Eq.trans ?_ (Cert.Kernel4Ideal.Mod.final m c).symm
    refine Eq.trans ?_ (modulated _ _ _)
    rw [← e0, ← e1, ← e2]
    rfl

/-- The certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Finite.facts,
    quiet_kernel, quiet_ideal, @quiet_ideal_pre Cert.Finite.facts, quiet_reference, @quiet_reference_pre Cert.Finite.facts,
    quiet_kernel2, quiet_ideal2, quiet_reference2, quiet_kernel3, quiet_ideal3, quiet_reference3,
    quiet_kernel4, quiet_ideal4, quiet_reference4,
    named, @equal Cert.Finite.facts, trivial, equal2, trivial, equal3, trivial, equal4⟩

end Cert.Proof

end
